-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_available [hPre_all_available : Cert.Pre_all_available.Facts] (m : (ℓ : Loc Cert.KernelIdeal.nD Cert.KernelIdeal.τ Cert.KernelIdeal.sig) → Buf (Elt Ideal) ℓ) : Prop :=
  ∀ c : Dev Cert.KernelIdeal.nD,
    (Cert.Pre_all_available.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_available [hPre_all_available : Cert.Pre_all_available.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_available.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_available [hKernelIdeal : Cert.KernelIdeal.Facts] [hPre_all_available : Cert.Pre_all_available.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_available m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_available [hReferenceIdeal : Cert.ReferenceIdeal.Facts] [hPre_all_available : Cert.Pre_all_available.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_available m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_all_available [hKernelIdeal : Cert.KernelIdeal.Facts] [hReferenceIdeal : Cert.ReferenceIdeal.Facts] [hPre_all_available : Cert.Pre_all_available.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_available m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_all_available : Cert.Pre_all_available.Facts),
    quiescent_Kernel (hKernel := hKernel)
    ∧ quiescent_KernelIdeal (hKernelIdeal := hKernelIdeal)
    ∧ quiescent_KernelIdeal_pre_all_available (hKernelIdeal := hKernelIdeal) (hPre_all_available := hPre_all_available)
    ∧ quiescent_ReferenceIdeal (hReferenceIdeal := hReferenceIdeal)
    ∧ quiescent_ReferenceIdeal_pre_all_available (hReferenceIdeal := hReferenceIdeal) (hPre_all_available := hPre_all_available)
    ∧ preserves_Kernel_KernelIdeal
    ∧ algebraic_KernelIdeal_ReferenceIdeal_pre_all_available (hKernelIdeal := hKernelIdeal) (hReferenceIdeal := hReferenceIdeal) (hPre_all_available := hPre_all_available)
-- ==== Pre_all_available.lean ====
abbrev S4096x64x64 : Shape := ⟨3, ![4096, 64, 64]⟩
abbrev S4096x64 : Shape := ⟨2, ![4096, 64]⟩
abbrev S4x64x64 : Shape := ⟨3, ![4, 64, 64]⟩
abbrev S4x64 : Shape := ⟨2, ![4, 64]⟩
abbrev S_ : Shape := ⟨0, ![]⟩

class Facts : Prop where
  reducesTo_S4096x64_S_d0_1 : S4096x64.ReducesTo [0, 1] S_
  h_S_ : 0 < S_.numel

variable [Facts]

def fn {F : FTy → Type} [FloatOps F] (main_arg0 : FVec F S4096x64x64 .f32) (main_arg1 : IVec S4096x64 1) (main_arg2 : FVec F S4x64x64 .f32) (main_arg3 : FVec F S4x64 .f32) (main_arg4 : FVec F S4x64x64 .f32) (main_arg5 : FVec F S4x64 .f32) : IVec S_ 1 :=
  let main_c : IVec S_ 1 := constantI S_ 1 1#1
  let main_v0 : IVec S_ 1 := (fun x v => Host.reduce IntOp.andi x v reducesTo_S4096x64_S_d0_1 h_S_) main_arg1 main_c
  main_v0
-- ==== Kernel.lean ====
abbrev S4096x64x64 : Shape := ⟨3, ![4096, 64, 64]⟩
abbrev S4096x64 : Shape := ⟨2, ![4096, 64]⟩
abbrev S4x64x64 : Shape := ⟨3, ![4, 64, 64]⟩
abbrev S4x64 : Shape := ⟨2, ![4, 64]⟩
abbrev S_ : Shape := ⟨0, ![]⟩
abbrev S4x128x128 : Shape := ⟨3, ![4, 128, 128]⟩
abbrev S1 : Shape := ⟨1, ![1]⟩
abbrev S2 : Shape := ⟨1, ![2]⟩
abbrev S4x128 : Shape := ⟨2, ![4, 128]⟩
abbrev S4x1x128 : Shape := ⟨3, ![4, 1, 128]⟩
abbrev S64x64 : Shape := ⟨2, ![64, 64]⟩
abbrev S64x128 : Shape := ⟨2, ![64, 128]⟩
abbrev S1x64x128 : Shape := ⟨3, ![1, 64, 128]⟩
abbrev S2x64x128 : Shape := ⟨3, ![2, 64, 128]⟩
abbrev S128x64 : Shape := ⟨2, ![128, 64]⟩
abbrev S1x128x64 : Shape := ⟨3, ![1, 128, 64]⟩
abbrev S2x128x64 : Shape := ⟨3, ![2, 128, 64]⟩
abbrev S2x256x64x64 : Shape := ⟨4, ![2, 256, 64, 64]⟩
abbrev S1x256x64x64 : Shape := ⟨4, ![1, 256, 64, 64]⟩
abbrev S256x64x64 : Shape := ⟨3, ![256, 64, 64]⟩
abbrev S128x64x64 : Shape := ⟨3, ![128, 64, 64]⟩
abbrev S8192x64 : Shape := ⟨2, ![8192, 64]⟩
abbrev S8192x128 : Shape := ⟨2, ![8192, 128]⟩
abbrev S128x64x128 : Shape := ⟨3, ![128, 64, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128x1x128 : Shape := ⟨3, ![128, 1, 128]⟩
abbrev S1x128x64x64 : Shape := ⟨4, ![1, 128, 64, 64]⟩

abbrev nBuf : Space → Nat
  | .hbm => 58
  | .vmem => 8
  | .smem => 0
  | _ => 0

abbrev bufTy : (tb : Table) → Fin (tcTables nBuf tb) → BufTy
  | .hbm, ⟨0, _⟩ => ⟨S4096x64x64, .f32⟩
  | .hbm, ⟨1, _⟩ => ⟨S4096x64, .i1⟩
  | .hbm, ⟨2, _⟩ => ⟨S4x64x64, .f32⟩
  | .hbm, ⟨3, _⟩ => ⟨S4x64, .f32⟩
  | .hbm, ⟨4, _⟩ => ⟨S4x64x64, .f32⟩
  | .hbm, ⟨5, _⟩ => ⟨S4x64, .f32⟩
  | .hbm, ⟨6, _⟩ => ⟨S4x64x64, .f32⟩
  | .hbm, ⟨7, _⟩ => ⟨S4x64x64, .f32⟩
  | .hbm, ⟨8, _⟩ => ⟨S_, .f32⟩
  | .hbm, ⟨9, _⟩ => ⟨S4x128x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S4x128x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S4x128x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S4x128x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S4x128x128, .f32⟩
  | .hbm, ⟨34, _⟩ => ⟨S4x128, .f32⟩
  | .hbm, ⟨35, _⟩ => ⟨S4x1x128, .f32⟩
  | .hbm, ⟨36, _⟩ => ⟨S4x128, .f32⟩
  | .hbm, ⟨37, _⟩ => ⟨S4x1x128, .f32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S64x64, .i1⟩
  | .hbm, ⟨44, _⟩ => ⟨S64x64, .f32⟩
  | .hbm, ⟨45, _⟩ => ⟨S_, .f32⟩
  | .hbm, ⟨46, _⟩ => ⟨S64x64, .f32⟩
  | .hbm, ⟨47, _⟩ => ⟨S64x128, .f32⟩
  | .hbm, ⟨48, _⟩ => ⟨S64x128, .f32⟩
  | .hbm, ⟨49, _⟩ => ⟨S1x64x128, .f32⟩
  | .hbm, ⟨50, _⟩ => ⟨S1x64x128, .f32⟩
  | .hbm, ⟨51, _⟩ => ⟨S2x64x128, .f32⟩
  | .hbm, ⟨52, _⟩ => ⟨S128x64, .f32⟩
  | .hbm, ⟨53, _⟩ => ⟨S128x64, .f32⟩
  | .hbm, ⟨54, _⟩ => ⟨S1x128x64, .f32⟩
  | .hbm, ⟨55, _⟩ => ⟨S1x128x64, .f32⟩
  | .hbm, ⟨56, _⟩ => ⟨S2x128x64, .f32⟩
  | .hbm, ⟨57, _⟩ => ⟨S4096x64x64, .f32⟩
  | .local _ .vmem, ⟨0, _⟩ => ⟨S4x128x128, .f32⟩
  | .local _ .vmem, ⟨1, _⟩ => ⟨S4x1x128, .f32⟩
  | .local _ .vmem, ⟨2, _⟩ => ⟨S4x128x128, .f32⟩
  | .local _ .vmem, ⟨3, _⟩ => ⟨S4x1x128, .f32⟩
  | .local _ .vmem, ⟨4, _⟩ => ⟨S2x64x128, .f32⟩
  | .local _ .vmem, ⟨5, _⟩ => ⟨S2x128x64, .f32⟩
  | .local _ .vmem, ⟨6, _⟩ => ⟨S2x256x64x64, .f32⟩
  | .local _ .vmem, ⟨7, _⟩ => ⟨S2x256x64x64, .f32⟩
  | _, _ => ⟨S4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "third" => some ((1 / 3 : ℝ) : EReal)
  | _ => none
-- ==== ReferenceIdeal.lean ====
abbrev S4096x64x64 : Shape := ⟨3, ![4096, 64, 64]⟩
abbrev S4096x64 : Shape := ⟨2, ![4096, 64]⟩
abbrev S4x64x64 : Shape := ⟨3, ![4, 64, 64]⟩
abbrev S4x64 : Shape := ⟨2, ![4, 64]⟩
abbrev S_ : Shape := ⟨0, ![]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1x64 : Shape := ⟨3, ![1, 1, 64]⟩
abbrev S4096x1x64 : Shape := ⟨3, ![4096, 1, 64]⟩
abbrev S4096x64x1 : Shape := ⟨3, ![4096, 64, 1]⟩

abbrev nBuf : Space → Nat
  | .hbm => 167
  | .vmem => 0
  | .smem => 0
  | _ => 0

abbrev hbmTy0_0 (i : Nat) : BufTy := match i % 128 with
  | 0 => ⟨S4096x64x64, .f32⟩
  | 1 => ⟨S4096x64, .i1⟩
  | 2 => ⟨S4x64x64, .f32⟩
  | 3 => ⟨S4x64, .f32⟩
  | 4 => ⟨S4x64x64, .f32⟩
  | 5 => ⟨S4x64, .f32⟩
  | 6 => ⟨S_, .f32⟩
  | 7 => ⟨S4096x64, .f32⟩
  | 8 => ⟨S1x64x64, .f32⟩
  | 9 => ⟨S64x64, .f32⟩
  | 10 => ⟨S4096x64x64, .f32⟩
  | 11 => ⟨S1x64, .f32⟩
  | 12 => ⟨S64, .f32⟩
  | 13 => ⟨S1x1x64, .f32⟩
  | 14 => ⟨S4096x64x64, .f32⟩
  | 15 => ⟨S4096x64x64, .f32⟩
  | 16 => ⟨S4096x1x64, .f32⟩
  | 17 => ⟨S4096x64x64, .f32⟩
  | 18 => ⟨S4096x64x64, .f32⟩
  | 19 => ⟨S4096x64x1, .i1⟩
  | 20 => ⟨S_, .f32⟩
  | 21 => ⟨S_, .f32⟩
  | 22 => ⟨S4096x64x64, .i1⟩
  | 23 => ⟨S4096x64x64, .f32⟩
  | 24 => ⟨S4096x64x64, .f32⟩
  | 25 => ⟨S_, .f32⟩
  | 26 => ⟨S4096x64, .f32⟩
  | 27 => ⟨S_, .f32⟩
  | 28 => ⟨S4096x64x64, .f32⟩
  | 29 => ⟨S4096x64x64, .f32⟩
  | 30 => ⟨S4096x64x64, .f32⟩
  | 31 => ⟨S_, .f32⟩
  | 32 => ⟨S4096x64x64, .f32⟩
  | 33 => ⟨S4096x64x64, .f32⟩
  | 34 => ⟨S_, .f32⟩
  | 35 => ⟨S4096x64, .f32⟩
  | 36 => ⟨S4096x64, .f32⟩
  | 37 => ⟨S4096x64, .f32⟩
  | 38 => ⟨S_, .f32⟩
  | 39 => ⟨S4096x64, .f32⟩
  | 40 => ⟨S4096x64, .f32⟩
  | 41 => ⟨S1x64x64, .f32⟩
  | 42 => ⟨S64x64, .f32⟩
  | 43 => ⟨S4096x64x64, .f32⟩
  | 44 => ⟨S1x64, .f32⟩
  | 45 => ⟨S64, .f32⟩
  | 46 => ⟨S1x1x64, .f32⟩
  | 47 => ⟨S4096x64x64, .f32⟩
  | 48 => ⟨S4096x64x64, .f32⟩
  | 49 => ⟨S1x64x64, .f32⟩
  | 50 => ⟨S64x64, .f32⟩
  | 51 => ⟨S64x64, .f32⟩
  | 52 => ⟨S4096x64, .f32⟩
  | 53 => ⟨S1x64, .f32⟩
  | 54 => ⟨S64, .f32⟩
  | 55 => ⟨S1x64, .f32⟩
  | 56 => ⟨S4096x64, .f32⟩
  | 57 => ⟨S4096x64, .f32⟩
  | 58 => ⟨S4096x1x64, .f32⟩
  | 59 => ⟨S4096x64x64, .f32⟩
  | 60 => ⟨S4096x64x64, .f32⟩
  | 61 => ⟨S4096x64x1, .i1⟩
  | 62 => ⟨S_, .f32⟩
  | 63 => ⟨S_, .f32⟩
  | 64 => ⟨S4096x64x64, .i1⟩
  | 65 => ⟨S4096x64x64, .f32⟩
  | 66 => ⟨S4096x64x64, .f32⟩
  | 67 => ⟨S_, .f32⟩
  | 68 => ⟨S4096x64, .f32⟩
  | 69 => ⟨S_, .f32⟩
  | 70 => ⟨S4096x64x64, .f32⟩
  | 71 => ⟨S4096x64x64, .f32⟩
  | 72 => ⟨S4096x64x64, .f32⟩
  | 73 => ⟨S_, .f32⟩
  | 74 => ⟨S4096x64x64, .f32⟩
  | 75 => ⟨S4096x64x64, .f32⟩
  | 76 => ⟨S_, .f32⟩
  | 77 => ⟨S4096x64, .f32⟩
  | 78 => ⟨S4096x64, .f32⟩
  | 79 => ⟨S4096x64, .f32⟩
  | 80 => ⟨S_, .f32⟩
  | 81 => ⟨S4096x64, .f32⟩
  | 82 => ⟨S4096x64, .f32⟩
  | 83 => ⟨S1x64x64, .f32⟩
  | 84 => ⟨S64x64, .f32⟩
  | 85 => ⟨S4096x64x64, .f32⟩
  | 86 => ⟨S1x64, .f32⟩
  | 87 => ⟨S64, .f32⟩
  | 88 => ⟨S1x1x64, .f32⟩
  | 89 => ⟨S4096x64x64, .f32⟩
  | 90 => ⟨S4096x64x64, .f32⟩
  | 91 => ⟨S1x64x64, .f32⟩
  | 92 => ⟨S64x64, .f32⟩
  | 93 => ⟨S64x64, .f32⟩
  | 94 => ⟨S4096x64, .f32⟩
  | 95 => ⟨S1x64, .f32⟩
  | 96 => ⟨S64, .f32⟩
  | 97 => ⟨S1x64, .f32⟩
  | 98 => ⟨S4096x64, .f32⟩
  | 99 => ⟨S4096x64, .f32⟩
  | 100 => ⟨S4096x1x64, .f32⟩
  | 101 => ⟨S4096x64x64, .f32⟩
  | 102 => ⟨S4096x64x64, .f32⟩
  | 103 => ⟨S4096x64x1, .i1⟩
  | 104 => ⟨S_, .f32⟩
  | 105 => ⟨S_, .f32⟩
  | 106 => ⟨S4096x64x64, .i1⟩
  | 107 => ⟨S4096x64x64, .f32⟩
  | 108 => ⟨S4096x64x64, .f32⟩
  | 109 => ⟨S_, .f32⟩
  | 110 => ⟨S4096x64, .f32⟩
  | 111 => ⟨S_, .f32⟩
  | 112 => ⟨S4096x64x64, .f32⟩
  | 113 => ⟨S4096x64x64, .f32⟩
  | 114 => ⟨S4096x64x64, .f32⟩
  | 115 => ⟨S_, .f32⟩
  | 116 => ⟨S4096x64x64, .f32⟩
  | 117 => ⟨S4096x64x64, .f32⟩
  | 118 => ⟨S_, .f32⟩
  | 119 => ⟨S4096x64, .f32⟩
  | 120 => ⟨S4096x64, .f32⟩
  | 121 => ⟨S4096x64, .f32⟩
  | 122 => ⟨S_, .f32⟩
  | 123 => ⟨S4096x64, .f32⟩
  | 124 => ⟨S4096x64, .f32⟩
  | 125 => ⟨S1x64x64, .f32⟩
  | 126 => ⟨S64x64, .f32⟩
  | 127 => ⟨S4096x64x64, .f32⟩
  | _ => ⟨S4096x64x64, .f32⟩

abbrev hbmTy0_1 (i : Nat) : BufTy := match i % 128 with
  | 0 => ⟨S1x64, .f32⟩
  | 1 => ⟨S64, .f32⟩
  | 2 => ⟨S1x1x64, .f32⟩
  | 3 => ⟨S4096x64x64, .f32⟩
  | 4 => ⟨S4096x64x64, .f32⟩
  | 5 => ⟨S1x64x64, .f32⟩
  | 6 => ⟨S64x64, .f32⟩
  | 7 => ⟨S64x64, .f32⟩
  | 8 => ⟨S4096x64, .f32⟩
  | 9 => ⟨S1x64, .f32⟩
  | 10 => ⟨S64, .f32⟩
  | 11 => ⟨S1x64, .f32⟩
  | 12 => ⟨S4096x64, .f32⟩
  | 13 => ⟨S4096x64, .f32⟩
  | 14 => ⟨S4096x1x64, .f32⟩
  | 15 => ⟨S4096x64x64, .f32⟩
  | 16 => ⟨S4096x64x64, .f32⟩
  | 17 => ⟨S4096x64x1, .i1⟩
  | 18 => ⟨S_, .f32⟩
  | 19 => ⟨S_, .f32⟩
  | 20 => ⟨S4096x64x64, .i1⟩
  | 21 => ⟨S4096x64x64, .f32⟩
  | 22 => ⟨S4096x64x64, .f32⟩
  | 23 => ⟨S_, .f32⟩
  | 24 => ⟨S4096x64, .f32⟩
  | 25 => ⟨S_, .f32⟩
  | 26 => ⟨S4096x64x64, .f32⟩
  | 27 => ⟨S4096x64x64, .f32⟩
  | 28 => ⟨S4096x64x64, .f32⟩
  | 29 => ⟨S_, .f32⟩
  | 30 => ⟨S4096x64x64, .f32⟩
  | 31 => ⟨S4096x64x64, .f32⟩
  | 32 => ⟨S_, .f32⟩
  | 33 => ⟨S4096x64, .f32⟩
  | 34 => ⟨S4096x64, .f32⟩
  | 35 => ⟨S4096x64, .f32⟩
  | 36 => ⟨S_, .f32⟩
  | 37 => ⟨S4096x64, .f32⟩
  | 38 => ⟨S4096x64, .f32⟩
  | _ => ⟨S4096x64x64, .f32⟩

abbrev hbmTy (i : Nat) : BufTy := match i / 128 with
  | 0 => hbmTy0_0 i
  | 1 => hbmTy0_1 i
  | _ => ⟨S4096x64x64, .f32⟩

abbrev bufTy : (tb : Table) → Fin (tcTables nBuf tb) → BufTy
  | .hbm, ⟨i, _⟩ => hbmTy i
  | _, _ => ⟨S4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_12 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_18 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v112 : Ref sig .tc := ⟨.hbm, 150, rfl⟩
abbrev main_cst_19 : Ref sig .tc := ⟨.hbm, 151, rfl⟩
abbrev main_v113 : Ref sig .tc := ⟨.hbm, 152, rfl⟩
abbrev main_cst_20 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_21 : Ref sig .tc := ⟨.hbm, 157, rfl⟩
abbrev main_v117 : Ref sig .tc := ⟨.hbm, 158, rfl⟩
abbrev main_v118 : Ref sig .tc := ⟨.hbm, 159, rfl⟩
abbrev main_cst_22 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_23 : Ref sig .tc := ⟨.hbm, 164, rfl⟩
abbrev main_v122 : Ref sig .tc := ⟨.hbm, 165, rfl⟩
abbrev main_v123 : Ref sig .tc := ⟨.hbm, 166, rfl⟩

abbrev nD : Nat := 1
abbrev τ : Topo := Topo.v7x

variable {F : FTy → Type} [FloatOps F]
-- ==== Proof.Ideal.Tile.lean ====
/-
  One tile of the packed context-gating kernel: what it computes from the 256 rows it is given and the staged
  weights (`tileHalf`), and the tile as a program over the two slots of the input and output buffers
  (`tileG t`, at a symbolic tile number). `kernel_eq_tiles`: the printed kernel is the first copy issued, the
  sixteen tiles in order, and the last two copies awaited.
-/
module

public import proofs.«01_k».proof.Proof.Gen.KernelIdeal.Frame
public import Idealize.ShloMosaic.Lib.Pipeline.KitQuiescent
public import Idealize.ShloMosaic.Lib.Ring
public import Idealize.ShloMosaic.Lib.Tactic

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-! ## What a tile computes -/

/-- The 256 rows of a tile packed side by side: rows 0–127 in lanes 0–63, rows 128–255 in lanes 64–127. -/
def pack (x : Vec F S1x256x64x64 .f32) (p q : Vec F S1x64x128 .f32) : FVec F S128x64x128 .f32 :=
  shapeCast S128x64x128
    (addf
      (matmul dot_S8192x64_S64x128_S8192x128_1_0_0_1_n_n (some .fp32)
        (shapeCast S8192x64 (extractStridedSlice S128x64x64 ![0, 0, 0] (shapeCast S256x64x64 x shapeCasts_S1x256x64x64_S256x64x64)
          slices_S256x64x64_o0_0_0_S128x64x64) shapeCasts_S128x64x64_S8192x64)
        (shapeCast S64x128 p shapeCasts_S1x64x128_S64x128) (constant S8192x128 .f32 0x00000000#32))
      (matmul dot_S8192x64_S64x128_S8192x128_1_0_0_1_n_n (some .fp32)
        (shapeCast S8192x64 (extractStridedSlice S128x64x64 ![128, 0, 0] (shapeCast S256x64x64 x shapeCasts_S1x256x64x64_S256x64x64)
          slices_S256x64x64_o128_0_0_S128x64x64) shapeCasts_S128x64x64_S8192x64)
        (shapeCast S64x128 q shapeCasts_S1x64x128_S64x128) (constant S8192x128 .f32 0x00000000#32)))
    shapeCasts_S8192x128_S128x64x128

/-- An affine layer of every agent's lanes: `h · w + b`. -/
def layer (h : FVec F S128x64x128 .f32) (w : Vec F S1x128x128 .f32) (b : Vec F S1x1x128 .f32) : FVec F S128x64x128 .f32 :=
  addf
    (shapeCast S128x64x128
      (matmul dot_S8192x128_S128x128_S8192x128_1_0_0_1_n_n none (shapeCast S8192x128 h shapeCasts_S128x64x128_S8192x128)
        (shapeCast S128x128 w shapeCasts_S1x128x128_S128x128) (constant S8192x128 .f32 0x00000000#32))
      shapeCasts_S8192x128_S128x64x128)
    (broadcastTo S128x64x128 (shapeCast S1x1x128 (shapeCast S1x128 b shapeCasts_S1x1x128_S1x128) shapeCasts_S1x128_S1x1x128)
      broadcasts_S1x1x128_S128x64x128)

/-- The maximum over the agents of a row. -/
def agentMax (e : FVec F S128x64x128 .f32) : FVec F S128x128 .f32 :=
  multiReduction .maximumf [1] S128x128 e 0xFF800000#32 reduces_S128x64x128_S128x128 (.inl rfl) rfl

/-- A layer's gate, already divided by the layer's number: `(c · w + b) · r`. -/
def gate (c : FVec F S128x128 .f32) (w : Vec F S1x128x128 .f32) (b : Vec F S1x1x128 .f32) (r : F .f32) : FVec F S128x1x128 .f32 :=
  shapeCast S128x1x128
    (mulf
      (addf
        (matmul dot_S128x128_S128x128_S128x128_1_0_0_1_n_n none c (shapeCast S128x128 w shapeCasts_S1x128x128_S128x128)
          (constant S128x128 .f32 0x00000000#32))
        (broadcastTo S128x128 (shapeCast S1x128 b shapeCasts_S1x1x128_S1x128) broadcasts_S1x128_S128x128))
      (broadcast S128x128 r))
    shapeCasts_S128x128_S128x1x128

/-- The gated layer: `(h · w + b) · g`, the gate the same for every agent of a row. -/
def gated (h : FVec F S128x64x128 .f32) (w : Vec F S1x128x128 .f32) (b : Vec F S1x1x128 .f32) (g : FVec F S128x1x128 .f32) :
    FVec F S128x64x128 .f32 :=
  mulf (layer h w b) (broadcastTo S128x64x128 g broadcasts_S128x1x128_S128x64x128)

/-- The weights a tile loads, in the kernel's staged form. -/
structure Weights (F : FTy → Type) [FloatOps F] where
  p : Vec F S1x64x128 .f32
  q : Vec F S1x64x128 .f32
  w : Fin 4 → Vec F S1x128x128 .f32
  b : Fin 4 → Vec F S1x1x128 .f32
  cw : Fin 4 → Vec F S1x128x128 .f32
  cb : Fin 4 → Vec F S1x1x128 .f32

/-- The first embedding, -/
def emb0 (W : Weights F) (h : FVec F S128x64x128 .f32) : FVec F S128x64x128 .f32 := layer h (W.w 0) (W.b 0)
/-- the context after it, -/
def ctx0 (W : Weights F) (h : FVec F S128x64x128 .f32) : FVec F S128x128 .f32 :=
  addf (broadcast S128x128 (Scalar.ofBits .f32 0x3F800000#32)) (agentMax (emb0 W h))
/-- and the hidden state. -/
def hid0 (W : Weights F) (h : FVec F S128x64x128 .f32) : FVec F S128x64x128 .f32 := addf h (emb0 W h)

/-- One gated layer `k`'s embedding, scaled by `r`, from the state `(h, c)` before it. -/
def embG (W : Weights F) (k : Fin 4) (r : F .f32) (h : FVec F S128x64x128 .f32) (c : FVec F S128x128 .f32) : FVec F S128x64x128 .f32 :=
  gated h (W.w k) (W.b k) (gate c (W.cw k) (W.cb k) r)

/-- The scales of layers 1, 2 and 3. -/
def half : F .f32 := Scalar.ofBits .f32 0x3F000000#32
/-- The scale of the second gated layer, by its name. -/
def third : F .f32 := Named.named κ "third" 0x3EAAAAAB#32
/-- The scale of the third gated layer. -/
def quarter : F .f32 := Scalar.ofBits .f32 0x3E800000#32

/-- The packed rows after the first gated layer. -/
def hid1 (W : Weights F) (h : FVec F S128x64x128 .f32) : FVec F S128x64x128 .f32 := addf (hid0 W h) (embG W 1 half (hid0 W h) (ctx0 W h))
/-- The packed contexts after it. -/
def ctx1 (W : Weights F) (h : FVec F S128x64x128 .f32) : FVec F S128x128 .f32 := addf (ctx0 W h) (agentMax (embG W 1 half (hid0 W h) (ctx0 W h)))
/-- The packed rows after the second gated layer. -/
def hid2 (W : Weights F) (h : FVec F S128x64x128 .f32) : FVec F S128x64x128 .f32 := addf (hid1 W h) (embG W 2 third (hid1 W h) (ctx1 W h))
/-- The packed contexts after it. -/
def ctx2 (W : Weights F) (h : FVec F S128x64x128 .f32) : FVec F S128x128 .f32 := addf (ctx1 W h) (agentMax (embG W 2 third (hid1 W h) (ctx1 W h)))
/-- The packed rows after the four layers. -/
def hid3 (W : Weights F) (h : FVec F S128x64x128 .f32) : FVec F S128x64x128 .f32 := addf (hid2 W h) (embG W 3 quarter (hid2 W h) (ctx2 W h))

/-- A half of the packed rows taken out of its lanes. -/
def unpack (r : FVec F S128x64x128 .f32) (u : Vec F S1x128x64 .f32) : FVec F S1x128x64x64 .f32 :=
  shapeCast S1x128x64x64
    (shapeCast S128x64x64
      (matmul dot_S8192x128_S128x64_S8192x64_1_0_0_1_n_n (some .fp32) (shapeCast S8192x128 r shapeCasts_S128x64x128_S8192x128)
        (shapeCast S128x64 u shapeCasts_S1x128x64_S128x64) (constant S8192x64 .f32 0x00000000#32))
      shapeCasts_S8192x64_S128x64x64)
    shapeCasts_S128x64x64_S1x128x64x64

/-- What a tile computes for a half of its rows, `u` the half's unpacking matrix. -/
def tileHalf (W : Weights F) (x : Vec F S1x256x64x64 .f32) (u : Vec F S1x128x64 .f32) : FVec F S1x128x64x64 .f32 :=
  unpack (hid3 W (pack x W.p W.q)) u

/-! ## Canonical names: a tile's rows of an array, a slot of a buffer, a slot's semaphore -/

/-- Where tile `t` starts in an array of 4096 rows. -/
abbrev blkOff (t : Fin 16) : Fin 3 → Nat := ![256 * t.val, 0, 0]
/-- A tile lies within the array. -/
theorem blkOff_inb (t : Fin 16) : ∀ a, blkOff t a + S256x64x64.size a ≤ S4096x64x64.size a := by
  have := t.isLt; intro a; fin_cases a
  · show 256 * t.val + 256 ≤ 4096; omega
  · show 0 + 64 ≤ 64; omega
  · show 0 + 64 ≤ 64; omega
/-- Where slot `s` starts in a buffer. -/
abbrev slotOff (s : Fin 2) : Fin 4 → Nat := ![s.val, 0, 0, 0]
/-- A slot lies within the buffer. -/
theorem slotOff_inb (s : Fin 2) : ∀ a, slotOff s a + S1x256x64x64.size a ≤ S2x256x64x64.size a := by
  have := s.isLt; intro a; fin_cases a
  · show s.val + 1 ≤ 2; omega
  · show 0 + 256 ≤ 256; omega
  · show 0 + 64 ≤ 64; omega
  · show 0 + 64 ≤ 64; omega
/-- The two halves of a slot: its first and its last 128 rows. -/
abbrev topOff (s : Fin 2) : Fin 4 → Nat := ![s.val, 0, 0, 0]
/-- Where the second half of slot `s` starts. -/
abbrev botOff (s : Fin 2) : Fin 4 → Nat := ![s.val, 128, 0, 0]
/-- The first half of a slot lies within the buffer. -/
theorem topOff_inb (s : Fin 2) : ∀ a, topOff s a + S1x128x64x64.size a ≤ S2x256x64x64.size a := by
  have := s.isLt; intro a; fin_cases a
  · show s.val + 1 ≤ 2; omega
  · show 0 + 128 ≤ 256; omega
  · show 0 + 64 ≤ 64; omega
  · show 0 + 64 ≤ 64; omega
/-- The second half of a slot lies within the buffer. -/
theorem botOff_inb (s : Fin 2) : ∀ a, botOff s a + S1x128x64x64.size a ≤ S2x256x64x64.size a := by
  have := s.isLt; intro a; fin_cases a
  · show s.val + 1 ≤ 2; omega
  · show 128 + 128 ≤ 256; omega
  · show 0 + 64 ≤ 64; omega
  · show 0 + 64 ≤ 64; omega
/-- Where slot `s` has its counter. -/
abbrev semOff (s : Fin 2) : Fin 1 → Nat := ![s.val]
/-- A slot's counter is one of the two. -/
theorem semOff_inb (s : Fin 2) : ∀ a, semOff s a + S1.size a ≤ S2.size a := by
  have := s.isLt; intro a; fin_cases a; show s.val + 1 ≤ 2; omega

/-- The arrays in HBM and the two buffers. -/
abbrev hidM : Memref sig .tc .hbm S4096x64x64 .f32 := Memref.whole main_arg0
/-- The result array. -/
abbrev resM : Memref sig .tc .hbm S4096x64x64 .f32 := Memref.whole main_v40
/-- The input buffer. -/
abbrev inM : Memref sig .tc .vmem S2x256x64x64 .f32 := Memref.whole cc0_scratch0
/-- The output buffer. -/
abbrev outM : Memref sig .tc .vmem S2x256x64x64 .f32 := Memref.whole cc0_scratch1

/-- Tile `t`'s 256 rows of an array in HBM. -/
def blk (M : Memref sig .tc .hbm S4096x64x64 .f32) (t : Fin 16) : Memref sig .tc .hbm S256x64x64 .f32 :=
  M.slice (Rect.unit (s := S4096x64x64) (blkOff t) S256x64x64.size (blkOff_inb t)) (fun _ => rfl)
/-- Slot `s` of a buffer. -/
def slot (M : Memref sig .tc .vmem S2x256x64x64 .f32) (s : Fin 2) : Memref sig .tc .vmem S256x64x64 .f32 :=
  (M.slice (Rect.unit (s := S2x256x64x64) (slotOff s) S1x256x64x64.size (slotOff_inb s)) (fun _ => rfl)).squeeze S256x64x64 squeezes_S1x256x64x64_S256x64x64
/-- Slot `s`'s semaphore. -/
def slotSem (A : DmaSems sig S2) (s : Fin 2) : DmaSems sig S_ :=
  (A.slice (Rect.unit (s := S2) (semOff s) S1.size (semOff_inb s))).squeeze S_ squeezes_S1_S_

/-- The tile number as an index. -/
abbrev bk (t : ℕ) : Fin 16 := Ring.bk 16 t
/-- The slot of tile number `t`. -/
abbrev sl (t : ℕ) : Fin 2 := Ring.sl 2 t

/-! ## A tile as a program -/

/-- A program of the core the kernel runs on. -/
abbrev PG (F : FTy → Type) [FloatOps F] [Named F] : Type 1 := Prog (TpuEff nD τ sig (Elt F) Λ₀ .tc) PUnit

/-- Issue the copy of tile `t`'s rows into its slot; -/
def startIn (t : ℕ) : PG F :=
  Prog.lift (.enqueueDma (blk hidM (bk t)) (.here (slot inM (sl t))) (.dma (slotSem cc0_scratch2 (sl t)).sem)
    (View.wordExact_bits rfl) ((View.wordExact_bits rfl).reshape _ _) ⟨Or.inl rfl, trivial⟩)
/-- await it; -/
def waitIn (t : ℕ) : PG F :=
  Prog.lift (.waitDma2 (slotSem cc0_scratch2 (sl t)).sem (blk hidM (bk t)) (slot inM (sl t))
    (View.wordExact_bits rfl) ((View.wordExact_bits rfl).reshape _ _))
/-- issue the copy of tile `t`'s results out of its slot; -/
def startOut (t : ℕ) : PG F :=
  Prog.lift (.enqueueDma (slot outM (sl t)) (.here (blk resM (bk t))) (.dma (slotSem cc0_scratch3 (sl t)).sem)
    ((View.wordExact_bits rfl).reshape _ _) (View.wordExact_bits rfl) ⟨Or.inl rfl, trivial⟩)
/-- await it. -/
def waitOut (t : ℕ) : PG F :=
  Prog.lift (.waitDma2 (slotSem cc0_scratch3 (sl t)).sem (slot outM (sl t)) (blk resM (bk t))
    ((View.wordExact_bits rfl).reshape _ _) (View.wordExact_bits rfl))

/-- The next tile's copy in issued, if there is a next tile; -/
def nextIn (t : ℕ) : PG F := if t + 1 < 16 then startIn (t + 1) else pure ⟨⟩
/-- the copy out of two tiles ago awaited, if there was one: it frees the output slot. -/
def freeOut (t : ℕ) : PG F := if 2 ≤ t then waitOut (t - 2) else pure ⟨⟩

section Body

variable (arg1 : Memref sig .tc .vmem S4x128x128 .f32) (arg2 : Memref sig .tc .vmem S4x1x128 .f32)
  (arg3 : Memref sig .tc .vmem S4x128x128 .f32) (arg4 : Memref sig .tc .vmem S4x1x128 .f32)
  (arg5 : Memref sig .tc .vmem S2x64x128 .f32) (arg6 : Memref sig .tc .vmem S2x128x64 .f32)

/-- The computation of a tile in slot `s`: the slot loaded, the weights loaded in the order they are used, the two
    halves of the results stored. -/
def compute (s : Fin 2) : PG F := do
  let x : Vec F S1x256x64x64 .f32 ← Prog.lift (.load inM (Rect.unit (s := S2x256x64x64) (slotOff s) S1x256x64x64.size (slotOff_inb s)).toLoadRect (View.loadsAt_vmem h_S1x256x64x64))
  let p : Vec F S1x64x128 .f32 ← Prog.lift (.load arg5 (Rect.unit (s := S2x64x128) ![0, 0, 0] S1x64x128.size inb_S2x64x128_S1x64x128_0_0_0).toLoadRect (View.loadsAt_vmem h_S1x64x128))
  let q : Vec F S1x64x128 .f32 ← Prog.lift (.load arg5 (Rect.unit (s := S2x64x128) ![1, 0, 0] S1x64x128.size inb_S2x64x128_S1x64x128_1_0_0).toLoadRect (View.loadsAt_vmem h_S1x64x128))
  let w0 : Vec F S1x128x128 .f32 ← Prog.lift (.load arg1 (Rect.unit (s := S4x128x128) ![0, 0, 0] S1x128x128.size inb_S4x128x128_S1x128x128_0_0_0).toLoadRect (View.loadsAt_vmem h_S1x128x128))
  let b0 : Vec F S1x1x128 .f32 ← Prog.lift (.load arg2 (Rect.unit (s := S4x1x128) ![0, 0, 0] S1x1x128.size inb_S4x1x128_S1x1x128_0_0_0).toLoadRect (View.loadsAt_vmem h_S1x1x128))
  let c1 : Vec F S1x128x128 .f32 ← Prog.lift (.load arg3 (Rect.unit (s := S4x128x128) ![1, 0, 0] S1x128x128.size inb_S4x128x128_S1x128x128_1_0_0).toLoadRect (View.loadsAt_vmem h_S1x128x128))
  let d1 : Vec F S1x1x128 .f32 ← Prog.lift (.load arg4 (Rect.unit (s := S4x1x128) ![1, 0, 0] S1x1x128.size inb_S4x1x128_S1x1x128_1_0_0).toLoadRect (View.loadsAt_vmem h_S1x1x128))
  let w1 : Vec F S1x128x128 .f32 ← Prog.lift (.load arg1 (Rect.unit (s := S4x128x128) ![1, 0, 0] S1x128x128.size inb_S4x128x128_S1x128x128_1_0_0).toLoadRect (View.loadsAt_vmem h_S1x128x128))
  let b1 : Vec F S1x1x128 .f32 ← Prog.lift (.load arg2 (Rect.unit (s := S4x1x128) ![1, 0, 0] S1x1x128.size inb_S4x1x128_S1x1x128_1_0_0).toLoadRect (View.loadsAt_vmem h_S1x1x128))
  let c2 : Vec F S1x128x128 .f32 ← Prog.lift (.load arg3 (Rect.unit (s := S4x128x128) ![2, 0, 0] S1x128x128.size inb_S4x128x128_S1x128x128_2_0_0).toLoadRect (View.loadsAt_vmem h_S1x128x128))
  let d2 : Vec F S1x1x128 .f32 ← Prog.lift (.load arg4 (Rect.unit (s := S4x1x128) ![2, 0, 0] S1x1x128.size inb_S4x1x128_S1x1x128_2_0_0).toLoadRect (View.loadsAt_vmem h_S1x1x128))
  let w2 : Vec F S1x128x128 .f32 ← Prog.lift (.load arg1 (Rect.unit (s := S4x128x128) ![2, 0, 0] S1x128x128.size inb_S4x128x128_S1x128x128_2_0_0).toLoadRect (View.loadsAt_vmem h_S1x128x128))
  let b2 : Vec F S1x1x128 .f32 ← Prog.lift (.load arg2 (Rect.unit (s := S4x1x128) ![2, 0, 0] S1x1x128.size inb_S4x1x128_S1x1x128_2_0_0).toLoadRect (View.loadsAt_vmem h_S1x1x128))
  let c3 : Vec F S1x128x128 .f32 ← Prog.lift (.load arg3 (Rect.unit (s := S4x128x128) ![3, 0, 0] S1x128x128.size inb_S4x128x128_S1x128x128_3_0_0).toLoadRect (View.loadsAt_vmem h_S1x128x128))
  let d3 : Vec F S1x1x128 .f32 ← Prog.lift (.load arg4 (Rect.unit (s := S4x1x128) ![3, 0, 0] S1x1x128.size inb_S4x1x128_S1x1x128_3_0_0).toLoadRect (View.loadsAt_vmem h_S1x1x128))
  let w3 : Vec F S1x128x128 .f32 ← Prog.lift (.load arg1 (Rect.unit (s := S4x128x128) ![3, 0, 0] S1x128x128.size inb_S4x128x128_S1x128x128_3_0_0).toLoadRect (View.loadsAt_vmem h_S1x128x128))
  let b3 : Vec F S1x1x128 .f32 ← Prog.lift (.load arg2 (Rect.unit (s := S4x1x128) ![3, 0, 0] S1x1x128.size inb_S4x1x128_S1x1x128_3_0_0).toLoadRect (View.loadsAt_vmem h_S1x1x128))
  let u : Vec F S1x128x64 .f32 ← Prog.lift (.load arg6 (Rect.unit (s := S2x128x64) ![0, 0, 0] S1x128x64.size inb_S2x128x64_S1x128x64_0_0_0).toLoadRect (View.loadsAt_vmem h_S1x128x64))
  let _ : Vec F S1x128x64x64 .f32 ← Prog.lift (.load outM (Rect.unit (s := S2x256x64x64) (topOff s) S1x128x64x64.size (topOff_inb s)).toLoadRect (View.loadsAt_vmem h_S1x128x64x64))
  Prog.lift (.store outM (Rect.unit (s := S2x256x64x64) (topOff s) S1x128x64x64.size (topOff_inb s))
    (tileHalf ⟨p, q, ![w0, w1, w2, w3], ![b0, b1, b2, b3], ![c1, c1, c2, c3], ![d1, d1, d2, d3]⟩ x u) Finset.univ (View.stores_vmem_bits_univ h_S1x128x64x64 rfl) (.inl rfl))
  let v : Vec F S1x128x64 .f32 ← Prog.lift (.load arg6 (Rect.unit (s := S2x128x64) ![1, 0, 0] S1x128x64.size inb_S2x128x64_S1x128x64_1_0_0).toLoadRect (View.loadsAt_vmem h_S1x128x64))
  let _ : Vec F S1x128x64x64 .f32 ← Prog.lift (.load outM (Rect.unit (s := S2x256x64x64) (botOff s) S1x128x64x64.size (botOff_inb s)).toLoadRect (View.loadsAt_vmem h_S1x128x64x64))
  Prog.lift (.store outM (Rect.unit (s := S2x256x64x64) (botOff s) S1x128x64x64.size (botOff_inb s))
    (tileHalf ⟨p, q, ![w0, w1, w2, w3], ![b0, b1, b2, b3], ![c1, c1, c2, c3], ![d1, d1, d2, d3]⟩ x v) Finset.univ (View.stores_vmem_bits_univ h_S1x128x64x64 rfl) (.inl rfl))

/-- Tile `t`: the next tile's copy issued, this tile's awaited, the copy out of two tiles ago awaited, the computation, the copy out issued. -/
def tileG (t : ℕ) : PG F := do
  nextIn t
  waitIn t
  freeOut t
  compute arg1 arg2 arg3 arg4 arg5 arg6 (sl t)
  startOut t

/-- The tiles `t, t + 1, …, t + n - 1` in order, then the last two copies out awaited. -/
def tilesFrom : (n t : ℕ) → PG F
  | 0, _ => do
    waitOut 14
    waitOut 15
  | n + 1, t => do
    tileG arg1 arg2 arg3 arg4 arg5 arg6 t
    tilesFrom n (t + 1)

end Body

/-- The printed kernel is the first copy issued, the sixteen tiles in order, and the last two copies awaited. -/
theorem kernel_eq_tiles (arg1 : Memref sig .tc .vmem S4x128x128 .f32) (h1 : arg1.IsWhole)
    (arg2 : Memref sig .tc .vmem S4x1x128 .f32) (h2 : arg2.IsWhole) (arg3 : Memref sig .tc .vmem S4x128x128 .f32) (h3 : arg3.IsWhole)
    (arg4 : Memref sig .tc .vmem S4x1x128 .f32) (h4 : arg4.IsWhole) (arg5 : Memref sig .tc .vmem S2x64x128 .f32) (h5 : arg5.IsWhole)
    (arg6 : Memref sig .tc .vmem S2x128x64 .f32) (h6 : arg6.IsWhole) :
    cc0__mcg_kernel (F := F) hidM (Memref.isWhole_whole _) arg1 h1 arg2 h2 arg3 h3 arg4 h4 arg5 h5 arg6 h6 resM (Memref.isWhole_whole _)
        inM (Memref.isWhole_whole _) outM (Memref.isWhole_whole _) cc0_scratch2 cc0_scratch3
      = (do
          startIn 0
          tilesFrom arg1 arg2 arg3 arg4 arg5 arg6 16 0) := by
  sl_kernel_rfl

end Cert.Proof.Ideal
-- ==== Proof.Ideal.Rows.lean ====
/-
  A tile's 256 rows as the arrays in HBM and the slots of the two buffers hold them, what a tile computes of them,
  and what the copies and stores of a tile leave: each restated at the elements they touch.
-/
module

public import proofs.«01_k».proof.Proof.Ideal.Tile
public import Idealize.ShloMosaic.Lib.ValueLayout
public import Idealize.ShloMosaic.Lib.WritesUnit

@[expose] public section

noncomputable section

namespace Cert.Proof.Ideal

open Cert.KernelIdeal Cert.KernelIdeal.Gen
open Idealize.ShloMosaic Idealize.ShloMosaic.TcCoe Idealize.ShloMosaic.Tactic Idealize.ShloMosaic.ValueIdx

variable {F : FTy → Type} [FloatOps F] [Named F]

/-! ## A tile's rows, in an array and in a slot -/

/-- Tile `t`'s rows of an array. -/
def rowsOf (H : S4096x64x64.Idx → F .f32) (t : Fin 16) : S256x64x64.Idx → F .f32 := fun i =>
  H (ix3 ⟨256 * t.val + (i 0).val, by have := t.isLt; have : (i 0).val < 256 := (i 0).isLt; omega⟩ (i 1) (i 2))

/-- A buffer both of whose slots hold the rows `x`. -/
def landed (x : S256x64x64.Idx → F .f32) : S2x256x64x64.Idx → F .f32 := fun y => x (ix3 (y 1) (y 2) (y 3))

/-- The rows `x` as a slot's load gives them. -/
def loaded (x : S256x64x64.Idx → F .f32) : Vec F S1x256x64x64 .f32 := fun y => x (ix3 (y 1) (y 2) (y 3))

/-- The array assembled from sixteen tiles. -/
def arrayOf (Y : Fin 16 → S256x64x64.Idx → F .f32) : S4096x64x64.Idx → F .f32 := fun i =>
  Y ⟨(i 0).val / 256, by have : (i 0).val < 4096 := (i 0).isLt; omega⟩
    (ix3 ⟨(i 0).val % 256, Nat.mod_lt _ (by decide)⟩ (i 1) (i 2))

/-- Element `i` of an input slot is the buffer's element at that slot. -/
theorem slot_emb_in (s : Fin 2) (i : S256x64x64.Idx) : (slot inM s).view.emb i = ix4 s (i 0) (i 1) (i 2) := by
  have e : Shape.reshapeEquiv (s := S1x256x64x64) (s' := S256x64x64) (by decide) i = ix4 (0 : Fin 1) (i 0) (i 1) (i 2) := by
    rw [eq_ix3 i]; exact reshapeEquiv_ix3_1abc _ _ _ _
  show (Rect.unit (s := S2x256x64x64) (slotOff s) S1x256x64x64.size (slotOff_inb s)).emb (Shape.reshapeEquiv _ i) = _
  rw [e]
  funext a
  apply Fin.ext
  fin_cases a
  · show s.val + 1 * 0 = s.val; omega
  · show 0 + 1 * (i 0).val = (i 0).val; omega
  · show 0 + 1 * (i 1).val = (i 1).val; omega
  · show 0 + 1 * (i 2).val = (i 2).val; omega

/-- Element `i` of an output slot is the buffer's element at that slot. -/
theorem slot_emb_out (s : Fin 2) (i : S256x64x64.Idx) : (slot outM s).view.emb i = ix4 s (i 0) (i 1) (i 2) := slot_emb_in s i

/-- Element `i` of a tile of the hidden argument is the array's element `256 t` rows further. -/
theorem blk_emb_hid (t : Fin 16) (i : S256x64x64.Idx) :
    (blk hidM t).view.emb i = ix3 (⟨256 * t.val + (i 0).val, by have := t.isLt; have : (i 0).val < 256 := (i 0).isLt; omega⟩ : Fin 4096) (i 1) (i 2) := by
  show (Rect.unit (s := S4096x64x64) (blkOff t) S256x64x64.size (blkOff_inb t)).emb i = _
  funext a
  apply Fin.ext
  fin_cases a
  · show 256 * t.val + 1 * (i 0).val = 256 * t.val + (i 0).val; omega
  · show 0 + 1 * (i 1).val = (i 1).val; omega
  · show 0 + 1 * (i 2).val = (i 2).val; omega

/-- Element `i` of a tile of the result is the array's element `256 t` rows further. -/
theorem blk_emb_res (t : Fin 16) (i : S256x64x64.Idx) :
    (blk resM t).view.emb i = ix3 (⟨256 * t.val + (i 0).val, by have := t.isLt; have : (i 0).val < 256 := (i 0).isLt; omega⟩ : Fin 4096) (i 1) (i 2) :=
  blk_emb_hid t i

/-- A tile of an array assembled from tiles is that tile. -/
theorem rowsOf_arrayOf (Y : Fin 16 → S256x64x64.Idx → F .f32) (t : Fin 16) : rowsOf (arrayOf Y) t = Y t := by
  funext i
  have hi : (i 0).val < 256 := (i 0).isLt
  have h1 : (256 * t.val + (i 0).val) / 256 = t.val := by omega
  have h2 : (256 * t.val + (i 0).val) % 256 = (i 0).val := by omega
  show Y ⟨(256 * t.val + (i 0).val) / 256, _⟩ (ix3 (⟨(256 * t.val + (i 0).val) % 256, _⟩ : Fin 256) (i 1) (i 2)) = Y t i
  refine congr (congrArg Y (Fin.ext h1)) (Eq.trans ?_ (eq_ix3 i).symm)
  exact congrArg (fun z : Fin 256 => ix3 z (i 1) (i 2)) (Fin.ext h2)

/-- A slot written whole holds what was written. -/
theorem writes_slot_in (s : Fin 2) (f : S2x256x64x64.Idx → F .f32) (w x : S256x64x64.Idx → F .f32) (hw : w = x) :
    ∀ i ∈ (slot inM s).view.set, (slot inM s).view.writes (Elt F) f [⟨Rect.whole S256x64x64, w⟩] i = landed x i := by
  subst hw
  intro i hi
  obtain ⟨j, -, rfl⟩ := Finset.mem_map.mp hi
  have h := View.read_writes_cons_emb (Val := Elt F) (slot inM s).view f (Rect.whole S256x64x64) w [] j
  rw [Rect.emb_whole_apply] at h
  refine Eq.trans h ?_
  rw [slot_emb_in]
  exact congrArg w (eq_ix3 j)

/-- A block written whole with a tile of an array holds the array there. -/
theorem writes_blk_res (t : Fin 16) (f : S4096x64x64.Idx → F .f32) (w : S256x64x64.Idx → F .f32) (R : S4096x64x64.Idx → F .f32)
    (hw : w = rowsOf R t) :
    ∀ i ∈ (blk resM t).view.set, (blk resM t).view.writes (Elt F) f [⟨Rect.whole S256x64x64, w⟩] i = R i := by
  intro i hi
  obtain ⟨j, -, rfl⟩ := Finset.mem_map.mp hi
  have h := View.read_writes_cons_emb (Val := Elt F) (blk resM t).view f (Rect.whole S256x64x64) w [] j
  rw [Rect.emb_whole_apply] at h
  refine Eq.trans h ?_
  rw [blk_emb_res, hw]
  rfl

/-- A block of an array read is its rows. -/
theorem read_blk_hid (t : Fin 16) (H : S4096x64x64.Idx → F .f32) : (blk hidM t).view.read (Elt F) H = rowsOf H t := by
  funext i
  show H ((blk hidM t).view.emb i) = _
  rw [blk_emb_hid]; rfl

/-- A slot holding the rows `x` read is `x`. -/
theorem read_slot_out (s : Fin 2) (x : S256x64x64.Idx → F .f32) : (slot outM s).view.read (Elt F) (landed x) = x := by
  funext i
  show landed x ((slot outM s).view.emb i) = _
  rw [slot_emb_out]; exact congrArg x (eq_ix3 i).symm

/-- A slot holding the rows `x` loaded. -/
theorem readAt_slot (s : Fin 2) (x : S256x64x64.Idx → F .f32) :
    inM.view.readAt (Elt F) (Rect.unit (s := S2x256x64x64) (slotOff s) S1x256x64x64.size (slotOff_inb s)).toLoadRect (landed x)
      = loaded x := by
  funext i
  show x (ix3 _ _ _) = x (ix3 _ _ _)
  congr 1
  funext a
  apply Fin.ext
  fin_cases a
  · show 0 + 1 * (i 1).val = (i 1).val; omega
  · show 0 + 1 * (i 2).val = (i 2).val; omega
  · show 0 + 1 * (i 3).val = (i 3).val; omega

/-- The rows whose first 128 are `a` and whose last 128 are `b`. -/
def halves (a b : S1x128x64x64.Idx → F .f32) : S256x64x64.Idx → F .f32 := fun i =>
  if h : (i 0).val < 128 then a (ix4 (0 : Fin 1) (⟨(i 0).val, h⟩ : Fin 128) (i 1) (i 2))
  else b (ix4 (0 : Fin 1) (⟨(i 0).val - 128, by have : (i 0).val < 256 := (i 0).isLt; omega⟩ : Fin 128) (i 1) (i 2))

/-- The two halves of a slot stored, at one element. -/
theorem writes_halves_apply (s : Fin 2) (f : S2x256x64x64.Idx → F .f32) (a b : S1x128x64x64.Idx → F .f32)
    (r : Fin 256) (k d : Fin 64) (y : S2x256x64x64.Idx) (hy : y = (ix4 s r k d : (⟨4, ![2, 256, 64, 64]⟩ : Shape).Idx)) :
    outM.view.read (Elt F) (outM.view.writes (Elt F) f
          [⟨Rect.unit (s := S2x256x64x64) (botOff s) S1x128x64x64.size (botOff_inb s), b⟩,
           ⟨Rect.unit (s := S2x256x64x64) (topOff s) S1x128x64x64.size (topOff_inb s), a⟩]) y
      = halves a b (ix3 r k d : (⟨3, ![256, 64, 64]⟩ : Shape).Idx) := by
  have hr := r.isLt
  by_cases h : r.val < 128
  · rw [View.read_writes_cons_unit_of_not_mem (Val := Elt F) outM.view f (botOff_inb s) b _ y rfl (1 : Fin 4)
        (Or.inl (by rw [hy]; exact h)),
      View.read_writes_cons_unit_of_mem (Val := Elt F) outM.view f (topOff_inb s) a [] y
        (ix4 (0 : Fin 1) (⟨r.val, h⟩ : Fin 128) k d : (⟨4, ![1, 128, 64, 64]⟩ : Shape).Idx) rfl ?_]
    · unfold halves; rw [dif_pos (show ((ix3 r k d : (⟨3, ![256, 64, 64]⟩ : Shape).Idx) 0).val < 128 from h)]
    · intro a; rw [hy]; fin_cases a
      · show s.val = s.val + 0; omega
      · show r.val = 0 + r.val; omega
      · show k.val = 0 + k.val; omega
      · show d.val = 0 + d.val; omega
  · rw [View.read_writes_cons_unit_of_mem (Val := Elt F) outM.view f (botOff_inb s) b _ y
        (ix4 (0 : Fin 1) (⟨r.val - 128, by omega⟩ : Fin 128) k d : (⟨4, ![1, 128, 64, 64]⟩ : Shape).Idx) rfl ?_]
    · unfold halves; rw [dif_neg (show ¬ ((ix3 r k d : (⟨3, ![256, 64, 64]⟩ : Shape).Idx) 0).val < 128 from h)]
    · intro a; rw [hy]; fin_cases a
      · show s.val = s.val + 0; omega
      · show r.val = 128 + (r.val - 128); omega
      · show k.val = 0 + k.val; omega
      · show d.val = 0 + d.val; omega

/-- The two halves of a slot stored: the slot holds them. -/
theorem writes_halves (s : Fin 2) (f : S2x256x64x64.Idx → F .f32) (a b : S1x128x64x64.Idx → F .f32) :
    ∀ i ∈ (slot outM s).view.set,
      outM.view.writes (Elt F) f
          [⟨Rect.unit (s := S2x256x64x64) (botOff s) S1x128x64x64.size (botOff_inb s), b⟩,
           ⟨Rect.unit (s := S2x256x64x64) (topOff s) S1x128x64x64.size (topOff_inb s), a⟩] i
        = landed (halves a b) i := by
  intro i hi
  obtain ⟨j, -, rfl⟩ := Finset.mem_map.mp hi
  have key : ∀ (g : S2x256x64x64.Idx → F .f32) (y : S2x256x64x64.Idx), View.read (Elt F) outM.view g y = g y := fun _ _ => rfl
  refine Eq.trans (key _ _).symm ((writes_halves_apply s f a b (j 0) (j 1) (j 2) _ (slot_emb_out s j)).trans ?_)
  rw [slot_emb_out]
  generalize halves a b = h
  rfl

/-- What a tile computes of the rows `x`: its first 128 rows unpacked by `u`, its last by `v`. -/
def tileOut (W : Weights F) (u v : Vec F S1x128x64 .f32) (x : S256x64x64.Idx → F .f32) : S256x64x64.Idx → F .f32 :=
  halves (tileHalf W (loaded x) u) (tileHalf W (loaded x) v)

end Cert.Proof.Ideal
-- ==== Proof.Ideal.Steps.lean ====
/-
  The steps of a tile, each over the resources it touches: a copy in issued and awaited, the computation of a slot, a
  copy out issued and awaited. A slot that holds a tile is held at `landed x`, `x` the tile's 256 rows.
-/
module

public import proofs.«01_k».proof.Proof.Ideal.Rows

@[expose] public section

noncomputable section

namespace Cert.Proof.Ideal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's, beside the counters the kernel's own copies ride on. -/
abbrev UU (nD : Nat) (τ : Topo) : Type := UR sig nD τ × Counters
local notation "𝕄" => MT nD τ sig Unit (Elt F) ℕ (UU nD τ) ℕ
/-- The kernel has no loop, so no loop variants. -/
abbrev 𝒱₀ : Variants := Variants.none

variable (c : Dev nD)

/-- The offsets of the slots, of their halves and of the tiles are in closed form. -/
instance (s : Fin 2) : ClosedOff (slotOff s) := ⟨slotOff s, rfl⟩
instance (s : Fin 2) : ClosedOff (topOff s) := ⟨topOff s, rfl⟩
instance (s : Fin 2) : ClosedOff (botOff s) := ⟨botOff s, rfl⟩
instance (t : Fin 16) : ClosedOff (blkOff t) := ⟨blkOff t, rfl⟩

/-- The counter of input slot `s` at zero, held. -/
abbrev cellI (s : Fin 2) : sProp 𝕄 := semVal ((c : Thread nD τ), SemLoc.dma (slotSem cc0_scratch2 s).sem) 0
/-- The counter of output slot `s` at zero, held. -/
abbrev cellO (s : Fin 2) : sProp 𝕄 := semVal ((c : Thread nD τ), SemLoc.dma (slotSem cc0_scratch3 s).sem) 0
/-- Slot `s` of a buffer, held at the contents `f`. -/
abbrev slotP (M : Memref sig .tc .vmem S2x256x64x64 .f32) (s : Fin 2) (f : Buf (Elt F) ((slot M s).view.loc (c : Thread nD τ))) : sProp 𝕄 :=
  (slot M s).view.loc (c : Thread nD τ) ↦[(slot M s).view.set]{fullShare} f
/-- Tile `t` of an array, held at the contents `f`. -/
abbrev blkP (M : Memref sig .tc .hbm S4096x64x64 .f32) (t : Fin 16) (f : Buf (Elt F) ((blk M t).view.loc (c : Thread nD τ))) : sProp 𝕄 :=
  (blk M t).view.loc (c : Thread nD τ) ↦[(blk M t).view.set]{fullShare} f
/-- What the thread may still owe. -/
abbrev owesP : sProp 𝕄 := iprop(∃ W, owes (c : Thread nD τ) 0 W)

/-- A copy in of tile `t` under way: it delivers the slot holding the tile's rows, and the rows of the array back. -/
abbrev flightI (H : S4096x64x64.Idx → F .f32) (t : ℕ) : sProp 𝕄 :=
  Transfers.Flight countersEmb (c : Thread nD τ) (SemLoc.dma (SemArray.sem (slotSem cc0_scratch2 (sl t)))) default 262144
    iprop(slotP c inM (sl t) (landed (rowsOf H (bk t))) ∗ blkP c hidM (bk t) H)

/-- A copy out of tile `t` under way: it delivers the tile of the result at `R`, and the slot back. -/
abbrev flightO (R : S4096x64x64.Idx → F .f32) (t : ℕ) : sProp 𝕄 :=
  Transfers.Flight countersEmb (c : Thread nD τ) (SemLoc.dma (SemArray.sem (slotSem cc0_scratch3 (sl t)))) default 262144
    iprop(blkP c resM (bk t) R ∗ slotP c outM (sl t) (landed (rowsOf R (bk t))))

/-- Starting a copy in: the tile and the slot are given up to the copy under way. -/
theorem startIn_step (t : ℕ) (H : S4096x64x64.Idx → F .f32) :
    iprop(blkP c hidM (bk t) H ∗ (∃ f, slotP c inM (sl t) f) ∗ cellI c (sl t) ∗ owesP c)
      ⊢ wp frame (wpE (defs₀ (F := F)) 𝒱₀ (c : Thread nD τ) none) Set.univ (startIn t)
        (fun _ => iprop(flightI c H t ∗ owesP c)) := by
  iintro ⟨HB, ⟨%f, HS⟩, HC, ⟨%W, HW⟩⟩
  unfold startIn
  sl_exec
  sl_step
  isplitl [HC]
  · iapply (Transfers.Flight_mono countersEmb (c : Thread nD τ) ?_) $$ HC
    refine Laws.sep_mono (Entails.of_eq (pointsTo_congr ?_)) .rfl
    exact writes_slot_in (sl t) f _ _ (read_blk_hid (bk t) H)
  · iexists W; iexact HW

/-- Awaiting a copy in: the slot is had holding the tile's rows. -/
theorem waitIn_step (t : ℕ) (H : S4096x64x64.Idx → F .f32) :
    iprop(flightI c H t ∗ owesP c)
      ⊢ wp frame (wpE (defs₀ (F := F)) 𝒱₀ (c : Thread nD τ) none) Set.univ (waitIn t)
        (fun _ => iprop(slotP c inM (sl t) (landed (rowsOf H (bk t))) ∗ blkP c hidM (bk t) H ∗ cellI c (sl t) ∗ owesP c)) := by
  iintro ⟨HF, ⟨%W, HW⟩⟩
  unfold waitIn
  sl_exec
  sl_step
  isplitl [HF_dst]; · iexact HF_dst
  isplitl [HF_src]; · iexact HF_src
  isplitl [HF]; · iexact HF
  iexists _; iexact HW

/-- Starting a copy out: the slot and the tile are given up to the copy under way. -/
theorem startOut_step (t : ℕ) (f : S4096x64x64.Idx → F .f32) (R : S4096x64x64.Idx → F .f32) :
    iprop(slotP c outM (sl t) (landed (rowsOf R (bk t))) ∗ blkP c resM (bk t) f ∗ cellO c (sl t) ∗ owesP c)
      ⊢ wp frame (wpE (defs₀ (F := F)) 𝒱₀ (c : Thread nD τ) none) Set.univ (startOut t)
        (fun _ => iprop(flightO c R t ∗ owesP c)) := by
  iintro ⟨HS, HB, HC, ⟨%W, HW⟩⟩
  unfold startOut
  sl_exec
  sl_step
  isplitl [HC]
  · iapply (Transfers.Flight_mono countersEmb (c : Thread nD τ) ?_) $$ HC
    refine Laws.sep_mono (Entails.of_eq (pointsTo_congr ?_)) .rfl
    exact writes_blk_res (bk t) f _ R (read_slot_out (sl t) _)
  · iexists W; iexact HW

/-- Awaiting a copy out: the tile is had written. -/
theorem waitOut_step (t : ℕ) (R : S4096x64x64.Idx → F .f32) :
    iprop(flightO c R t ∗ owesP c)
      ⊢ wp frame (wpE (defs₀ (F := F)) 𝒱₀ (c : Thread nD τ) none) Set.univ (waitOut t)
        (fun _ => iprop(blkP c resM (bk t) R ∗ (∃ f, slotP c outM (sl t) f) ∗ cellO c (sl t) ∗ owesP c)) := by
  iintro ⟨HF, ⟨%W, HW⟩⟩
  unfold waitOut
  sl_exec
  sl_step
  isplitl [HF_dst]; · iexact HF_dst
  isplitl [HF_src]; · iexists _; iexact HF_src
  isplitl [HF]; · iexact HF
  iexists _; iexact HW

section Compute

variable (arg1 : Memref sig .tc .vmem S4x128x128 .f32) (h1 : arg1.IsWhole) (arg2 : Memref sig .tc .vmem S4x1x128 .f32) (h2 : arg2.IsWhole)
  (arg3 : Memref sig .tc .vmem S4x128x128 .f32) (h3 : arg3.IsWhole) (arg4 : Memref sig .tc .vmem S4x1x128 .f32) (h4 : arg4.IsWhole)
  (arg5 : Memref sig .tc .vmem S2x64x128 .f32) (h5 : arg5.IsWhole) (arg6 : Memref sig .tc .vmem S2x128x64 .f32) (h6 : arg6.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ)))

/-- The six staging buffers. -/
abbrev stagedP : sProp 𝕄 := iprop((arg1.view.loc (c : Thread nD τ) ↦[arg1.view.set]{fullShare} g1)
      ∗ (arg2.view.loc (c : Thread nD τ) ↦[arg2.view.set]{fullShare} g2)
      ∗ (arg3.view.loc (c : Thread nD τ) ↦[arg3.view.set]{fullShare} g3)
      ∗ (arg4.view.loc (c : Thread nD τ) ↦[arg4.view.set]{fullShare} g4)
      ∗ (arg5.view.loc (c : Thread nD τ) ↦[arg5.view.set]{fullShare} g5)
      ∗ (arg6.view.loc (c : Thread nD τ) ↦[arg6.view.set]{fullShare} g6))

/-- The weights a tile loads from the staging buffers. -/
def stagedW : Weights F :=
  ⟨arg5.view.readAt (Elt F) (Rect.unit (s := S2x64x128) ![0, 0, 0] S1x64x128.size inb_S2x64x128_S1x64x128_0_0_0).toLoadRect g5,
   arg5.view.readAt (Elt F) (Rect.unit (s := S2x64x128) ![1, 0, 0] S1x64x128.size inb_S2x64x128_S1x64x128_1_0_0).toLoadRect g5,
   ![arg1.view.readAt (Elt F) (Rect.unit (s := S4x128x128) ![0, 0, 0] S1x128x128.size inb_S4x128x128_S1x128x128_0_0_0).toLoadRect g1,
     arg1.view.readAt (Elt F) (Rect.unit (s := S4x128x128) ![1, 0, 0] S1x128x128.size inb_S4x128x128_S1x128x128_1_0_0).toLoadRect g1,
     arg1.view.readAt (Elt F) (Rect.unit (s := S4x128x128) ![2, 0, 0] S1x128x128.size inb_S4x128x128_S1x128x128_2_0_0).toLoadRect g1,
     arg1.view.readAt (Elt F) (Rect.unit (s := S4x128x128) ![3, 0, 0] S1x128x128.size inb_S4x128x128_S1x128x128_3_0_0).toLoadRect g1],
   ![arg2.view.readAt (Elt F) (Rect.unit (s := S4x1x128) ![0, 0, 0] S1x1x128.size inb_S4x1x128_S1x1x128_0_0_0).toLoadRect g2,
     arg2.view.readAt (Elt F) (Rect.unit (s := S4x1x128) ![1, 0, 0] S1x1x128.size inb_S4x1x128_S1x1x128_1_0_0).toLoadRect g2,
     arg2.view.readAt (Elt F) (Rect.unit (s := S4x1x128) ![2, 0, 0] S1x1x128.size inb_S4x1x128_S1x1x128_2_0_0).toLoadRect g2,
     arg2.view.readAt (Elt F) (Rect.unit (s := S4x1x128) ![3, 0, 0] S1x1x128.size inb_S4x1x128_S1x1x128_3_0_0).toLoadRect g2],
   ![arg3.view.readAt (Elt F) (Rect.unit (s := S4x128x128) ![1, 0, 0] S1x128x128.size inb_S4x128x128_S1x128x128_1_0_0).toLoadRect g3,
     arg3.view.readAt (Elt F) (Rect.unit (s := S4x128x128) ![1, 0, 0] S1x128x128.size inb_S4x128x128_S1x128x128_1_0_0).toLoadRect g3,
     arg3.view.readAt (Elt F) (Rect.unit (s := S4x128x128) ![2, 0, 0] S1x128x128.size inb_S4x128x128_S1x128x128_2_0_0).toLoadRect g3,
     arg3.view.readAt (Elt F) (Rect.unit (s := S4x128x128) ![3, 0, 0] S1x128x128.size inb_S4x128x128_S1x128x128_3_0_0).toLoadRect g3],
   ![arg4.view.readAt (Elt F) (Rect.unit (s := S4x1x128) ![1, 0, 0] S1x1x128.size inb_S4x1x128_S1x1x128_1_0_0).toLoadRect g4,
     arg4.view.readAt (Elt F) (Rect.unit (s := S4x1x128) ![1, 0, 0] S1x1x128.size inb_S4x1x128_S1x1x128_1_0_0).toLoadRect g4,
     arg4.view.readAt (Elt F) (Rect.unit (s := S4x1x128) ![2, 0, 0] S1x1x128.size inb_S4x1x128_S1x1x128_2_0_0).toLoadRect g4,
     arg4.view.readAt (Elt F) (Rect.unit (s := S4x1x128) ![3, 0, 0] S1x1x128.size inb_S4x1x128_S1x1x128_3_0_0).toLoadRect g4]⟩

/-- The two unpacking matrices a tile loads. -/
def stagedU : Vec F S1x128x64 .f32 :=
  arg6.view.readAt (Elt F) (Rect.unit (s := S2x128x64) ![0, 0, 0] S1x128x64.size inb_S2x128x64_S1x128x64_0_0_0).toLoadRect g6
/-- The second of them. -/
def stagedV : Vec F S1x128x64 .f32 :=
  arg6.view.readAt (Elt F) (Rect.unit (s := S2x128x64) ![1, 0, 0] S1x128x64.size inb_S2x128x64_S1x128x64_1_0_0).toLoadRect g6

/-- What a tile of rows `x` computes, of the staged weights. -/
abbrev outRows (x : S256x64x64.Idx → F .f32) : S256x64x64.Idx → F .f32 :=
  tileOut (stagedW c arg1 arg2 arg3 arg4 arg5 g1 g2 g3 g4 g5) (stagedU c arg6 g6) (stagedV c arg6 g6) x

include h1 h2 h3 h4 h5 h6 in
/-- Computing a tile: the output slot is left holding what the input slot's rows compute to. -/
theorem compute_step (s : Fin 2) (x : S256x64x64.Idx → F .f32) :
    iprop(slotP c inM s (landed x) ∗ (∃ y, slotP c outM s y) ∗ stagedP c arg1 arg2 arg3 arg4 arg5 arg6 g1 g2 g3 g4 g5 g6)
      ⊢ wp frame (wpE (defs₀ (F := F)) 𝒱₀ (c : Thread nD τ) none) Set.univ (compute arg1 arg2 arg3 arg4 arg5 arg6 s)
        (fun _ => iprop(slotP c inM s (landed x)
          ∗ slotP c outM s (landed (outRows c arg1 arg2 arg3 arg4 arg5 arg6 g1 g2 g3 g4 g5 g6 x))
          ∗ stagedP c arg1 arg2 arg3 arg4 arg5 arg6 g1 g2 g3 g4 g5 g6)) := by
  iintro ⟨HX, ⟨%y, HY⟩, H1, H2, H3, H4, H5, H6⟩
  unfold compute
  sl_exec
  sl_step
  isplitl [HX]; · iexact HX
  isplitl [HY]
  · istop
    refine Entails.of_eq (pointsTo_congr fun i hi => Eq.trans ?_
      ((writes_halves s y
        (tileHalf (stagedW c arg1 arg2 arg3 arg4 arg5 g1 g2 g3 g4 g5)
          (inM.view.readAt (Elt F) (Rect.unit (s := S2x256x64x64) (slotOff s) S1x256x64x64.size (slotOff_inb s)).toLoadRect (landed x))
          (stagedU c arg6 g6))
        (tileHalf (stagedW c arg1 arg2 arg3 arg4 arg5 g1 g2 g3 g4 g5)
          (inM.view.readAt (Elt F) (Rect.unit (s := S2x256x64x64) (slotOff s) S1x256x64x64.size (slotOff_inb s)).toLoadRect (landed x))
          (stagedV c arg6 g6)) i hi).trans ?_))
    · unfold compute_step.sl.HY_w2
      rfl
    · rw [readAt_slot]; rfl
  isplitl [H1]; · iexact H1
  isplitl [H2]; · iexact H2
  isplitl [H3]; · iexact H3
  isplitl [H4]; · iexact H4
  isplitl [H5]; · iexact H5
  iexact H6

end Compute

end Cert.Proof.Ideal
-- ==== Proof.Ideal.Run.lean ====
/-
  The sixteen tiles in order. `Inv t` is what the kernel holds before tile `t`: tile `t`'s copy in under way, the other
  input slot free, the copies out of the two tiles before it under way, the tiles before those in the result.
  `tileG_step` takes it from `t` to `t + 1`, `kernel_run` from the free buffers to the whole result.
-/
module

public import proofs.«01_k».proof.Proof.Ideal.Steps

@[expose] public section

noncomputable section

namespace Cert.Proof.Ideal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (c : Dev nD)

/-! ## An array's tiles, all but those the copies under way hold -/

/-- One tile of the array before and after: below `lo` it holds `R`, from `hi` on `f`, between them it is away. -/
def part (M : Memref sig .tc .hbm S4096x64x64 .f32) (R f : ∀ t, Buf (Elt F) ((blk M t).view.loc (c : Thread nD τ))) (lo hi : ℕ) (b : Fin 16) : sProp 𝕄 :=
  if b.val < lo then blkP c M b (R b) else if hi ≤ b.val then blkP c M b (f b) else iprop(emp)

/-- The array's tiles but those in `lo ≤ b < hi`. -/
def parts (M : Memref sig .tc .hbm S4096x64x64 .f32) (R f : ∀ t, Buf (Elt F) ((blk M t).view.loc (c : Thread nD τ))) (lo hi : ℕ) : sProp 𝕄 :=
  bigSep Finset.univ (part c M R f lo hi)

variable (M : Memref sig .tc .hbm S4096x64x64 .f32) (R f : ∀ t, Buf (Elt F) ((blk M t).view.loc (c : Thread nD τ)))

/-- One tile's part taken from the sixteen. -/
theorem parts_split (lo hi : ℕ) (b : Fin 16) :
    parts c M R f lo hi = iprop(part c M R f lo hi b ∗ bigSep (Finset.univ.erase b) (part c M R f lo hi)) :=
  BI.bigSep_erase (Finset.mem_univ b)

/-- The other tiles' parts at other bounds, which every tile but `b` lies on the same side of. -/
theorem parts_rest (lo hi lo' hi' : ℕ) (b : Fin 16) (h : ∀ b' : Fin 16, b' ≠ b → (b'.val < lo ↔ b'.val < lo') ∧ (hi ≤ b'.val ↔ hi' ≤ b'.val)) :
    bigSep (Finset.univ.erase b) (part c M R f lo hi) = bigSep (Finset.univ.erase b) (part c M R f lo' hi') :=
  BI.bigSep_congr fun b' hb => by
    have := h b' (Finset.ne_of_mem_erase hb)
    unfold part
    simp only [this.1, this.2]

/-- The next tile taken out of the array; -/
theorem parts_take (lo t : ℕ) (ht : t < 16) (hlo : lo ≤ t) :
    parts c M R f lo t = iprop(blkP c M (bk t) (f (bk t)) ∗ parts c M R f lo (t + 1)) := by
  have hb : (bk t).val = t := Ring.bk_val ht
  rw [parts_split c M R f lo t (bk t), parts_split c M R f lo (t + 1) (bk t),
    parts_rest c M R f lo t lo (t + 1) (bk t) fun b' hb' => ⟨Iff.rfl, by
      have : b'.val ≠ t := fun h => hb' (Fin.ext (h.trans hb.symm))
      omega⟩]
  have e1 : part c M R f lo t (bk t) = blkP c M (bk t) (f (bk t)) := by
    unfold part; rw [if_neg (by omega), if_pos (by omega)]
  have e2 : part c M R f lo (t + 1) (bk t) = iprop(emp) := by
    unfold part; rw [if_neg (by omega), if_neg (by omega)]
  rw [e1, e2]
  exact congrArg (fun P => iprop(_ ∗ P)) (equiv_iff.mp BI.emp_sep).symm

/-- the oldest tile away put back. -/
theorem parts_put (t hi : ℕ) (ht : t < 16) (hhi : t < hi) :
    parts c M R f (t + 1) hi = iprop(blkP c M (bk t) (R (bk t)) ∗ parts c M R f t hi) := by
  have hb : (bk t).val = t := Ring.bk_val ht
  rw [parts_split c M R f (t + 1) hi (bk t), parts_split c M R f t hi (bk t),
    parts_rest c M R f (t + 1) hi t hi (bk t) fun b' hb' => ⟨by
      have : b'.val ≠ t := fun h => hb' (Fin.ext (h.trans hb.symm))
      omega, Iff.rfl⟩]
  have e1 : part c M R f (t + 1) hi (bk t) = blkP c M (bk t) (R (bk t)) := by
    unfold part; rw [if_pos (by omega)]
  have e2 : part c M R f t hi (bk t) = iprop(emp) := by
    unfold part; rw [if_neg (by omega), if_neg (by omega)]
  rw [e1, e2]
  exact congrArg (fun P => iprop(_ ∗ P)) (equiv_iff.mp BI.emp_sep).symm

/-- Past the last tile nothing more is taken. -/
theorem parts_past (lo hi hi' : ℕ) (h : 16 ≤ hi) (h' : 16 ≤ hi') : parts c M R f lo hi = parts c M R f lo hi' :=
  BI.bigSep_congr fun b _ => by
    have := b.isLt
    unfold part
    rw [if_neg (c := hi ≤ b.val) (by omega), if_neg (c := hi' ≤ b.val) (by omega)]

/-! ## The slots -/

/-- A free input slot and its cell at zero. -/
abbrev freeI (s : Fin 2) : sProp 𝕄 := iprop((∃ f, slotP c inM s f) ∗ cellI c s)
/-- A free output slot and its cell at zero. -/
abbrev freeO (s : Fin 2) : sProp 𝕄 := iprop((∃ f, slotP c outM s f) ∗ cellO c s)

/-- Tile `t`'s copy in under way, if there is a tile `t`. -/
def comingI (H : S4096x64x64.Idx → F .f32) (t : ℕ) : sProp 𝕄 := if t < 16 then flightI c H t else freeI c (sl t)
/-- The copy out of the tile `d` before `t` under way, if there is one. -/
def goingO (Rs : S4096x64x64.Idx → F .f32) (d t : ℕ) : sProp 𝕄 := if d ≤ t then flightO c Rs (t - d) else freeO c (sl (t + d))

/-- Two tiles on, the slot is the same. -/
theorem sl_add_two (t : ℕ) : sl (t + 2) = sl t := Ring.sl_add 2 t
/-- Two tiles back, the slot is the same. -/
theorem sl_sub_two (t : ℕ) (h : 2 ≤ t) : sl (t - 2) = sl t := by
  rw [← sl_add_two (t - 2), Nat.sub_add_cancel h]

/-- Below the last tile the copy in that is coming is one under way. -/
theorem comingI_pos (H : S4096x64x64.Idx → F .f32) (t : ℕ) (h : t < 16) : comingI c H t = flightI c H t := if_pos h
/-- The tile before this one is two before the next. -/
theorem goingO_succ (Rs : S4096x64x64.Idx → F .f32) (t : ℕ) : goingO c Rs 2 (t + 1) = goingO c Rs 1 t := by
  unfold goingO
  by_cases h : 1 ≤ t
  · rw [if_pos h, if_pos (show 2 ≤ t + 1 by omega), show t + 1 - 2 = t - 1 by omega]
  · rw [if_neg h, if_neg (show ¬ 2 ≤ t + 1 by omega), sl_add_two]

section Tiles

variable (arg1 : Memref sig .tc .vmem S4x128x128 .f32) (h1 : arg1.IsWhole) (arg2 : Memref sig .tc .vmem S4x1x128 .f32) (h2 : arg2.IsWhole)
  (arg3 : Memref sig .tc .vmem S4x128x128 .f32) (h3 : arg3.IsWhole) (arg4 : Memref sig .tc .vmem S4x1x128 .f32) (h4 : arg4.IsWhole)
  (arg5 : Memref sig .tc .vmem S2x64x128 .f32) (h5 : arg5.IsWhole) (arg6 : Memref sig .tc .vmem S2x128x64 .f32) (h6 : arg6.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ)))
  (H f : S4096x64x64.Idx → F .f32)

/-- The result: every tile what its rows compute to. -/
def result : S4096x64x64.Idx → F .f32 :=
  arrayOf fun t => outRows c arg1 arg2 arg3 arg4 arg5 arg6 g1 g2 g3 g4 g5 g6 (rowsOf H t)

/-- What the kernel holds before tile `t`. -/
def Inv (Rs : S4096x64x64.Idx → F .f32) (t : ℕ) : sProp 𝕄 :=
  iprop(parts c hidM (fun _ => H) (fun _ => H) t (t + 1) ∗ comingI c H t ∗ freeI c (sl (t + 1))
    ∗ parts c resM (fun _ => Rs) (fun _ => f) (t - 2) t ∗ goingO c Rs 2 t ∗ goingO c Rs 1 t
    ∗ stagedP c arg1 arg2 arg3 arg4 arg5 arg6 g1 g2 g3 g4 g5 g6 ∗ owesP c)

/-- Starting the next tile's copy in, if there is one: the tile and the slot are given up to the copy. -/
theorem nextIn_step (t : ℕ) (ht : t < 16) :
    iprop(parts c hidM (fun _ => H) (fun _ => H) t (t + 1) ∗ freeI c (sl (t + 1)) ∗ owesP c)
      ⊢ wp frame (wpE (defs₀ (F := F)) 𝒱₀ (c : Thread nD τ) none) Set.univ (nextIn t)
        (fun _ => iprop(parts c hidM (fun _ => H) (fun _ => H) t (t + 2) ∗ comingI c H (t + 1) ∗ owesP c)) := by
  unfold nextIn comingI
  by_cases h : t + 1 < 16
  · rw [if_pos h, if_pos h, parts_take c hidM (fun _ => H) (fun _ => H) t (t + 1) h (by omega)]
    iintro ⟨⟨HB, HP⟩, ⟨HS, HC⟩, HW⟩
    iapply (wp_wand_r frame _ Set.univ)
    isplitl [HB HS HC HW]
    · iapply (startIn_step c (t + 1) H)
      isplitl [HB]; · iexact HB
      isplitl [HS]; · iexact HS
      isplitl [HC]; · iexact HC
      iexact HW
    · iintro %_ ⟨HF, HW⟩
      isplitl [HP]; · iexact HP
      isplitl [HF]; · iexact HF
      iexact HW
  · rw [if_neg h, if_neg h, parts_past c hidM (fun _ => H) (fun _ => H) t (t + 1) (t + 2) (by omega) (by omega), wp_pure]
    iintro H
    imodintro
    iexact H

/-- Awaiting the copy out of two tiles before, if there is one: the slot is free, and that tile is written. -/
theorem freeOut_step (Rs : S4096x64x64.Idx → F .f32) (t : ℕ) (ht : t < 16) :
    iprop(parts c resM (fun _ => Rs) (fun _ => f) (t - 2) t ∗ goingO c Rs 2 t ∗ owesP c)
      ⊢ wp frame (wpE (defs₀ (F := F)) 𝒱₀ (c : Thread nD τ) none) Set.univ (freeOut t)
        (fun _ => iprop(parts c resM (fun _ => Rs) (fun _ => f) (t - 1) t ∗ freeO c (sl t) ∗ owesP c)) := by
  unfold freeOut goingO
  by_cases h : 2 ≤ t
  · rw [if_pos h, if_pos h, show t - 1 = t - 2 + 1 by omega,
      parts_put c resM (fun _ => Rs) (fun _ => f) (t - 2) t (by omega) (by omega), ← sl_sub_two t h]
    iintro ⟨HP, HF, HW⟩
    iapply (wp_wand_r frame _ Set.univ)
    isplitl [HF HW]
    · iapply (waitOut_step c (t - 2) Rs)
      isplitl [HF]; · iexact HF
      iexact HW
    · iintro %_ ⟨HB, HS, HC, HW⟩
      isplitl [HB HP]
      · isplitl [HB]; · iexact HB
        iexact HP
      isplitl [HS HC]
      · isplitl [HS]; · iexact HS
        iexact HC
      iexact HW
  · rw [if_neg h, if_neg h, show t - 1 = t - 2 by omega, sl_add_two, wp_pure]
    iintro H
    imodintro
    iexact H

include h1 h2 h3 h4 h5 h6 in
/-- One tile. -/
theorem tileG_step (Rs : S4096x64x64.Idx → F .f32)
    (hR : ∀ t, rowsOf Rs t = outRows c arg1 arg2 arg3 arg4 arg5 arg6 g1 g2 g3 g4 g5 g6 (rowsOf H t)) (t : ℕ) (ht : t < 16) :
    Inv c arg1 arg2 arg3 arg4 arg5 arg6 g1 g2 g3 g4 g5 g6 H f Rs t
      ⊢ wp frame (wpE (defs₀ (F := F)) 𝒱₀ (c : Thread nD τ) none) Set.univ (tileG arg1 arg2 arg3 arg4 arg5 arg6 t)
        (fun _ => Inv c arg1 arg2 arg3 arg4 arg5 arg6 g1 g2 g3 g4 g5 g6 H f Rs (t + 1)) := by
  unfold tileG Inv
  rw [wp_bind, wp_bind, wp_bind, wp_bind]
  iintro ⟨HH, HI, HN, HR, HO2, HO1, HG, HW⟩
  iapply (wp_wand_r frame _ Set.univ)
  isplitl [HH HN HW]
  · iapply (nextIn_step c H t ht)
    isplitl [HH]; · iexact HH
    isplitl [HN]; · iexact HN
    iexact HW
  iintro %_ ⟨HH, HN, HW⟩
  iapply (wp_wand_r frame _ Set.univ)
  isplitl [HI HW]
  · iapply (waitIn_step c t H)
    isplitl [HI]
    · irw [← comingI_pos c H t ht]; iexact HI
    iexact HW
  iintro %_ ⟨HX, HB, HC, HW⟩
  iapply (wp_wand_r frame _ Set.univ)
  isplitl [HR HO2 HW]
  · iapply (freeOut_step c f Rs t ht)
    isplitl [HR]; · iexact HR
    isplitl [HO2]; · iexact HO2
    iexact HW
  iintro %_ ⟨HR, ⟨HY, HD⟩, HW⟩
  iapply (wp_wand_r frame _ Set.univ)
  isplitl [HX HY HG]
  · iapply (compute_step c arg1 h1 arg2 h2 arg3 h3 arg4 h4 arg5 h5 arg6 h6 g1 g2 g3 g4 g5 g6 (sl t) (rowsOf H (bk t)))
    isplitl [HX]; · iexact HX
    isplitl [HY]; · iexact HY
    iexact HG
  iintro %_ ⟨HX, HY, HG⟩
  ihave HR := (Entails.of_eq (parts_take c resM (fun _ => Rs) (fun _ => f) (t - 1) t ht (by omega))) $$ HR
  icases HR with ⟨HT, HR⟩
  iapply (wp_wand_r frame _ Set.univ)
  isplitl [HY HT HD HW]
  · iapply (startOut_step c t f Rs)
    isplitl [HY]; · irw [hR (bk t)]; iexact HY
    isplitl [HT]; · iexact HT
    isplitl [HD]; · iexact HD
    iexact HW
  iintro %_ ⟨HF, HW⟩
  irw [parts_put c hidM (fun _ => H) (fun _ => H) t (t + 1 + 1) ht (by omega)]
  isplitl [HH HB]
  · isplitl [HB]; · iexact HB
    iexact HH
  isplitl [HN]; · iexact HN
  isplitl [HX HC]
  · irw [show t + 1 + 1 = t + 2 from rfl, sl_add_two]
    isplitl [HX]; · iexists _; iexact HX
    iexact HC
  isplitl [HR]; · iexact HR
  isplitl [HO1]
  · irw [goingO_succ]; iexact HO1
  isplitl [HF]
  · unfold goingO
    irw [if_pos (show 1 ≤ t + 1 by omega), Nat.add_sub_cancel]; iexact HF
  isplitl [HG]; · iexact HG
  iexact HW

/-- What the kernel holds when it ends: the array and the result whole, every slot free. -/
def Ended (Rs : S4096x64x64.Idx → F .f32) : sProp 𝕄 :=
  iprop(parts c hidM (fun _ => H) (fun _ => H) 16 17 ∗ freeI c (sl 16) ∗ freeI c (sl 17)
    ∗ parts c resM (fun _ => Rs) (fun _ => f) 16 16 ∗ freeO c (sl 14) ∗ freeO c (sl 15)
    ∗ stagedP c arg1 arg2 arg3 arg4 arg5 arg6 g1 g2 g3 g4 g5 g6 ∗ owesP c)

include h1 h2 h3 h4 h5 h6 in
/-- The tiles from `t` on, then the last two copies out awaited. -/
theorem tilesFrom_run (Rs : S4096x64x64.Idx → F .f32)
    (hR : ∀ t, rowsOf Rs t = outRows c arg1 arg2 arg3 arg4 arg5 arg6 g1 g2 g3 g4 g5 g6 (rowsOf H t)) (n : ℕ) :
    ∀ t, t + n = 16 → (Inv c arg1 arg2 arg3 arg4 arg5 arg6 g1 g2 g3 g4 g5 g6 H f Rs t
      ⊢ wp frame (wpE (defs₀ (F := F)) 𝒱₀ (c : Thread nD τ) none) Set.univ (tilesFrom arg1 arg2 arg3 arg4 arg5 arg6 n t)
        (fun _ => Ended c arg1 arg2 arg3 arg4 arg5 arg6 g1 g2 g3 g4 g5 g6 H f Rs)) := by
  induction n with
  | zero =>
    intro t ht
    obtain rfl : t = 16 := ht
    unfold tilesFrom Inv Ended comingI goingO
    rw [wp_bind, if_neg (by decide), if_pos (by decide), if_pos (by decide),
      parts_put c resM (fun _ => Rs) (fun _ => f) 15 16 (by decide) (by decide),
      parts_put c resM (fun _ => Rs) (fun _ => f) 14 16 (by decide) (by decide)]
    iintro ⟨HH, HI, HN, HR, HO2, HO1, HG, HW⟩
    iapply (wp_wand_r frame _ Set.univ)
    isplitl [HO2 HW]
    · iapply (waitOut_step c 14 Rs)
      isplitl [HO2]; · iexact HO2
      iexact HW
    iintro %_ ⟨HB, HS, HC, HW⟩
    iapply (wp_wand_r frame _ Set.univ)
    isplitl [HO1 HW]
    · iapply (waitOut_step c 15 Rs)
      isplitl [HO1]; · iexact HO1
      iexact HW
    iintro %_ ⟨HB', HS', HC', HW⟩
    isplitl [HH]; · iexact HH
    isplitl [HI]; · iexact HI
    isplitl [HN]; · iexact HN
    isplitl [HR HB HB']
    · isplitl [HB']; · iexact HB'
      isplitl [HB]; · iexact HB
      iexact HR
    isplitl [HS HC]
    · isplitl [HS]; · iexact HS
      iexact HC
    isplitl [HS' HC']
    · isplitl [HS']; · iexact HS'
      iexact HC'
    isplitl [HG]; · iexact HG
    iexact HW
  | succ n ih =>
    intro t ht
    unfold tilesFrom
    rw [wp_bind]
    exact (tileG_step c arg1 h1 arg2 h2 arg3 h3 arg4 h4 arg5 h5 arg6 h6 g1 g2 g3 g4 g5 g6 H f Rs hR t (by omega)).trans
      (wp_mono frame _ Set.univ fun _ => ih (t + 1) (by omega))

include h1 h2 h3 h4 h5 h6 in
/-- The kernel: from the array and the result whole and every slot free, to the result at `Rs`. -/
theorem kernel_run (Rs : S4096x64x64.Idx → F .f32)
    (hR : ∀ t, rowsOf Rs t = outRows c arg1 arg2 arg3 arg4 arg5 arg6 g1 g2 g3 g4 g5 g6 (rowsOf H t)) :
    iprop(parts c hidM (fun _ => H) (fun _ => H) 0 0 ∗ freeI c 0 ∗ freeI c 1
        ∗ parts c resM (fun _ => Rs) (fun _ => f) 0 0 ∗ freeO c 0 ∗ freeO c 1
        ∗ stagedP c arg1 arg2 arg3 arg4 arg5 arg6 g1 g2 g3 g4 g5 g6 ∗ owesP c)
      ⊢ wp frame (wpE (defs₀ (F := F)) 𝒱₀ (c : Thread nD τ) none) Set.univ
        (do
          startIn 0
          tilesFrom arg1 arg2 arg3 arg4 arg5 arg6 16 0)
        (fun _ => Ended c arg1 arg2 arg3 arg4 arg5 arg6 g1 g2 g3 g4 g5 g6 H f Rs) := by
  rw [wp_bind, parts_take c hidM (fun _ => H) (fun _ => H) 0 0 (by decide) (by decide)]
  iintro ⟨⟨HB, HH⟩, ⟨HS, HC⟩, HN, HR, HO2, HO1, HG, HW⟩
  iapply (wp_wand_r frame _ Set.univ)
  isplitl [HB HS HC HW]
  · iapply (startIn_step c 0 H)
    isplitl [HB]; · iexact HB
    isplitl [HS]; · iexact HS
    isplitl [HC]; · iexact HC
    iexact HW
  iintro %_ ⟨HF, HW⟩
  iapply (tilesFrom_run c arg1 h1 arg2 h2 arg3 h3 arg4 h4 arg5 h5 arg6 h6 g1 g2 g3 g4 g5 g6 H f Rs hR 16 0 rfl)
  unfold Inv comingI goingO
  rw [if_pos (by decide), if_neg (by decide), if_neg (by decide)]
  isplitl [HH]; · iexact HH
  isplitl [HF]; · iexact HF
  isplitl [HN]; · iexact HN
  isplitl [HR]; · iexact HR
  isplitl [HO2]; · iexact HO2
  isplitl [HO1]; · iexact HO1
  isplitl [HG]; · iexact HG
  iexact HW

end Tiles

end Cert.Proof.Ideal
-- ==== Proof.Ideal.Launch.lean ====
/-
  The launch: the one region entered with the argument array and the result whole, run (`kernel_run`), and left with
  the result at `res`. `run_main` is the run of @main: every argument as launched, the result at `res`, every semaphore
  counter at zero.
-/
module

public import proofs.«01_k».proof.Proof.Ideal.Run
public import Idealize.ShloMosaic.Lib.Pipeline.FrameValue

@[expose] public section

noncomputable section

namespace Cert.Proof.Ideal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg) (c : Dev nD)

/-! ## The element sets of the tiles and of the slots -/

/-- The elements of tile `b` of an array. -/
abbrev tileSet (b : Fin 16) : Finset S4096x64x64.Idx := (Rect.unit (s := S4096x64x64) (blkOff b) S256x64x64.size (blkOff_inb b)).set
/-- The elements of slot `s` of a buffer. -/
abbrev slotSet (s : Fin 2) : Finset S2x256x64x64.Idx := (Rect.unit (s := S2x256x64x64) (slotOff s) S1x256x64x64.size (slotOff_inb s)).set

/-- A tile of the hidden argument has the tile's elements. -/
theorem hid_set (b : Fin 16) : (blk hidM b).view.set = tileSet b := View.set_slice_whole _ _
/-- A tile of the result has the tile's elements. -/
theorem res_set (b : Fin 16) : (blk resM b).view.set = tileSet b := View.set_slice_whole _ _
/-- A slot of the input buffer has the slot's elements. -/
theorem in_set (s : Fin 2) : (slot inM s).view.set = slotSet s := (View.set_reshape _ _).trans (View.set_slice_whole _ _)
/-- A slot of the output buffer has the slot's elements. -/
theorem out_set (s : Fin 2) : (slot outM s).view.set = slotSet s := (View.set_reshape _ _).trans (View.set_slice_whole _ _)

/-- Row `r` belongs to tile `r / 256`. -/
theorem mem_tileSet (b : Fin 16) (y : S4096x64x64.Idx) : y ∈ tileSet b ↔ (y 0).val / 256 = b.val := by
  rw [Rect.mem_set_unit]
  have h1 : (y 1).val < 64 := (y 1).isLt
  have h2 : (y 2).val < 64 := (y 2).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 64; omega
    · show 0 ≤ (y 2).val ∧ (y 2).val < 0 + 64; omega
/-- The first coordinate says the slot. -/
theorem mem_slotSet (s : Fin 2) (y : S2x256x64x64.Idx) : y ∈ slotSet s ↔ (y 0).val = s.val := by
  rw [Rect.mem_set_unit]
  have h1 : (y 1).val < 256 := (y 1).isLt
  have h2 : (y 2).val < 64 := (y 2).isLt
  have h3 : (y 3).val < 64 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 64; omega
    · show 0 ≤ (y 3).val ∧ (y 3).val < 0 + 64; omega

/-- Two tiles share no element. -/
theorem tileSet_disjoint : ∀ b b' : Fin 16, b ≠ b' → Disjoint (tileSet b) (tileSet b') := by
  intro b b' hne; rw [Finset.disjoint_left]; intro y hy hy'; rw [mem_tileSet] at hy hy'; exact hne (Fin.ext (hy.symm.trans hy'))
/-- The tiles make up the array. -/
theorem tileSet_cover : (Finset.univ : Finset (Fin 16)).biUnion tileSet = Finset.univ := by
  ext y
  simp only [Finset.mem_biUnion, Finset.mem_univ, true_and, iff_true]
  have h : (y 0).val < 4096 := (y 0).isLt
  exact ⟨⟨(y 0).val / 256, by omega⟩, by rw [mem_tileSet]⟩
/-- Two slots share no element. -/
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
/-- The slots make up the buffer. -/
theorem slotSet_cover : (Finset.univ : Finset (Fin 2)).biUnion slotSet = Finset.univ := by
  ext y
  simp only [Finset.mem_biUnion, Finset.mem_univ, true_and, iff_true]
  exact ⟨⟨(y 0).val, (y 0).isLt⟩, by rw [mem_slotSet]⟩

/-- Something held for each slot is held for the first and for the second. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-! ## The arrays and the buffers, whole and in pieces -/

/-- The sixteen tiles of the hidden argument, held, are the array held. -/
theorem hid_parts (R f : ∀ t, Buf (Elt F) ((blk hidM t).view.loc (c : Thread nD τ))) (H : S4096x64x64.Idx → F .f32)
    (lo hi : ℕ) (h : ∀ b : Fin 16, b.val < lo ∧ R b = H ∨ ¬ b.val < lo ∧ hi ≤ b.val ∧ f b = H) :
    (((c : Thread nD τ).loc main_arg0) ↦{fullShare} H : sProp 𝕄) = parts c hidM R f lo hi := by
  rw [Ring.pointsTo_blocks (ℓ := (c : Thread nD τ).loc main_arg0) tileSet tileSet_disjoint tileSet_cover]
  refine bigSep_congr fun b _ => ?_
  unfold part
  rw [← hid_set]
  rcases h b with ⟨h1, h2⟩ | ⟨h1, h2, h3⟩
  · rw [if_pos h1, h2]; rfl
  · rw [if_neg h1, if_pos h2, h3]; rfl

/-- The sixteen tiles of the result, held, are the array held. -/
theorem res_parts (R f : ∀ t, Buf (Elt F) ((blk resM t).view.loc (c : Thread nD τ))) (H : S4096x64x64.Idx → F .f32)
    (lo hi : ℕ) (h : ∀ b : Fin 16, b.val < lo ∧ R b = H ∨ ¬ b.val < lo ∧ hi ≤ b.val ∧ f b = H) :
    (((c : Thread nD τ).loc main_v40) ↦{fullShare} H : sProp 𝕄) = parts c resM R f lo hi := by
  rw [Ring.pointsTo_blocks (ℓ := (c : Thread nD τ).loc main_v40) tileSet tileSet_disjoint tileSet_cover]
  refine bigSep_congr fun b _ => ?_
  unfold part
  rw [← res_set]
  rcases h b with ⟨h1, h2⟩ | ⟨h1, h2, h3⟩
  · rw [if_pos h1, h2]; rfl
  · rw [if_neg h1, if_pos h2, h3]; rfl

/-- A slot of the input buffer held is the slot's elements held. -/
theorem slotP_in (s : Fin 2) (f) : slotP c inM s f = (((c : Thread nD τ).loc cc0_scratch0) ↦[slotSet s]{fullShare} f : sProp 𝕄) :=
  congrArg (fun S => (_ ↦[S]{fullShare} f : sProp 𝕄)) (in_set s)
/-- A slot of the output buffer held is the slot's elements held. -/
theorem slotP_out (s : Fin 2) (f) : slotP c outM s f = (((c : Thread nD τ).loc cc0_scratch1) ↦[slotSet s]{fullShare} f : sProp 𝕄) :=
  congrArg (fun S => (_ ↦[S]{fullShare} f : sProp 𝕄)) (out_set s)

/-- The input buffer whole is its two slots, -/
theorem in_split :
    iprop(∃ f : Buf (Elt F) ((c : Thread nD τ).loc cc0_scratch0), ((c : Thread nD τ).loc cc0_scratch0) ↦{fullShare} f)
      ⊢ (iprop((∃ f, slotP c inM 0 f) ∗ ∃ f, slotP c inM 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) slotSet slotSet_disjoint slotSet_cover f).trans (bigSep_fin2 _))) $$ H
  icases H2 with ⟨H0, H1⟩
  isplitl [H0]
  · iexists f; iapply (Entails.of_eq (slotP_in c 0 f).symm); iexact H0
  · iexists f; iapply (Entails.of_eq (slotP_in c 1 f).symm); iexact H1
/-- and back; -/
theorem in_join :
    iprop((∃ f, slotP c inM 0 f) ∗ ∃ f, slotP c inM 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_fin2]
  isplitl [H0]
  · iexists f0; iapply (Entails.of_eq (slotP_in c 0 f0)); iexact H0
  · iexists f1; iapply (Entails.of_eq (slotP_in c 1 f1)); iexact H1
/-- the output buffer too, -/
theorem out_split :
    iprop(∃ f : Buf (Elt F) ((c : Thread nD τ).loc cc0_scratch1), ((c : Thread nD τ).loc cc0_scratch1) ↦{fullShare} f)
      ⊢ (iprop((∃ f, slotP c outM 0 f) ∗ ∃ f, slotP c outM 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch1) slotSet slotSet_disjoint slotSet_cover f).trans (bigSep_fin2 _))) $$ H
  icases H2 with ⟨H0, H1⟩
  isplitl [H0]
  · iexists f; iapply (Entails.of_eq (slotP_out c 0 f).symm); iexact H0
  · iexists f; iapply (Entails.of_eq (slotP_out c 1 f).symm); iexact H1
/-- and back. -/
theorem out_join :
    iprop((∃ f, slotP c outM 0 f) ∗ ∃ f, slotP c outM 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) slotSet slotSet_disjoint slotSet_cover f0)
  irw [bigSep_fin2]
  isplitl [H0]
  · iexists f0; iapply (Entails.of_eq (slotP_out c 0 f0)); iexact H0
  · iexists f1; iapply (Entails.of_eq (slotP_out c 1 f1)); iexact H1

/-! ## The kernel's own cells, and the buffers it is handed -/

/-- The four cells the copies signal: the input slots' two, the output slots' two. -/
abbrev osem : Fin 4 → SemLoc sig := ![SemLoc.dma 6, SemLoc.dma 7, SemLoc.dma 8, SemLoc.dma 9]
/-- The cells are none of those the staging uses. -/
theorem ownSemFacts : Pipeline.OwnSemFacts spec0 osem := by decide

/-- The four counters by their numbers: the input slots', 6 and 7, -/
theorem cellI_zero : (cellI c 0 : sProp 𝕄) = semVal ((c : Thread nD τ), SemLoc.dma 6) 0 := rfl
/-- 7 being the second's, -/
theorem cellI_one : (cellI c 1 : sProp 𝕄) = semVal ((c : Thread nD τ), SemLoc.dma 7) 0 := rfl
/-- and the output slots', 8 and 9, -/
theorem cellO_zero : (cellO c 0 : sProp 𝕄) = semVal ((c : Thread nD τ), SemLoc.dma 8) 0 := rfl
/-- 9 being the second's. -/
theorem cellO_one : (cellO c 1 : sProp 𝕄) = semVal ((c : Thread nD τ), SemLoc.dma 9) 0 := rfl

/-- The kernel's own counters at zero are these four. -/
theorem ownSems0_eq : (Pipeline.ownSems0 (Ix := Unit) (Name := ℕ) (U := UU nD τ) (Lvl := ℕ) (Val := Elt F) (τ := τ) osem c : sProp 𝕄)
    = iprop(cellI c 0 ∗ cellI c 1 ∗ cellO c 0 ∗ cellO c 1) := by
  rw [Pipeline.ownSems0_eq_of_list c osem [0, 1, 2, 3] (by decide) (by decide), cellI_zero, cellI_one, cellO_zero, cellO_one]; rfl

/-- The array the copies in read, and the one the copies out write. -/
def readRefs : Finset (Ref sig .tc) := {main_arg0}
/-- The array the copies out write. -/
def writtenRefs : Finset (Ref sig .tc) := {main_v40}
/-- The array read is staged by no window. -/
theorem readRefs_sub : readRefs ⊆ Pipeline.restRefs sig spec0 := by decide
/-- The array written is staged by no window, and is not the array read. -/
theorem writtenRefs_sub : writtenRefs ⊆ Pipeline.restRefs sig spec0 \ readRefs := by decide

/-- The arrays read, held, are the hidden argument held. -/
theorem read_eq (W : (b : Ref sig .tc) → Buf (Elt F) ((c : Thread nD τ).loc b)) :
    (bigSep readRefs (fun b => ((c : Thread nD τ).loc b) ↦{fullShare} W b) : sProp 𝕄) = ((c : Thread nD τ).loc main_arg0) ↦{fullShare} W main_arg0 := by
  rw [BI.bigSep_eq_bigSepL_of_eq [main_arg0] (by decide) (by decide)]; rfl
/-- The arrays written, held, are the result held. -/
theorem written_eq (W : (b : Ref sig .tc) → Buf (Elt F) ((c : Thread nD τ).loc b)) :
    (Pipeline.routed writtenRefs c W : sProp 𝕄) = ((c : Thread nD τ).loc main_v40) ↦{fullShare} W main_v40 := by
  unfold Pipeline.routed
  rw [BI.bigSep_eq_bigSepL_of_eq [main_v40] (by decide) (by decide)]; rfl

/-! ## The region's proof data -/

/-- The staging buffer of the layers' weights, -/
abbrev st0 : Memref sig .tc .vmem S4x128x128 .f32 := win0_0.stage (cfg0.slots t0_0 0)
/-- of their biases, -/
abbrev st1 : Memref sig .tc .vmem S4x1x128 .f32 := win0_1.stage (cfg0.slots t0_0 1)
/-- of the gates' weights, -/
abbrev st2 : Memref sig .tc .vmem S4x128x128 .f32 := win0_2.stage (cfg0.slots t0_0 2)
/-- of their biases, -/
abbrev st3 : Memref sig .tc .vmem S4x1x128 .f32 := win0_3.stage (cfg0.slots t0_0 3)
/-- of the packing matrices -/
abbrev st4 : Memref sig .tc .vmem S2x64x128 .f32 := win0_4.stage (cfg0.slots t0_0 4)
/-- and of the unpacking matrices. -/
abbrev st5 : Memref sig .tc .vmem S2x128x64 .f32 := win0_5.stage (cfg0.slots t0_0 5)

/-- What the kernel leaves in its result: every tile what its rows compute to, of the staged blocks. -/
def res : S4096x64x64.Idx → F .f32 :=
  result c st0 st1 st2 st3 st4 st5 (st0.view.rep (iblk m c 0 t0_0)) (st1.view.rep (iblk m c 1 t0_0)) (st2.view.rep (iblk m c 2 t0_0))
    (st3.view.rep (iblk m c 3 t0_0)) (st4.view.rep (iblk m c 4 t0_0)) (st5.view.rep (iblk m c 5 t0_0)) (V m c main_arg0)

/-- The buffers the kernel is handed back, the result at `res`. -/
def Vend (c : Dev nD) : (b : Ref sig .tc) → Buf (Elt F) ((c : Thread nD τ).loc b) := Function.update (V m c) main_v40 (res m c)
/-- The result is among the buffers handed back at `res`. -/
theorem Vend_res : Vend m c main_v40 = res m c := Function.update_self _ _ _

/-- The region's data: what each window's buffer holds, and what the kernel is handed and hands back. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := if t.val = 0 then Pipeline.ΦDRG osem spec0 readRefs writtenRefs (V m) (V m) c
    else Pipeline.ΦDRG osem spec0 readRefs writtenRefs (V m) (Vend m) c
  q _ := fullShare
  owed _ := 0

/-- What the kernel is handed. -/
theorem Φ_entry : (dats m 0 c).Φ 0 = Pipeline.ΦDRG osem spec0 readRefs writtenRefs (V m) (V m) c := by
  dsimp only [dats]; exact if_pos rfl
/-- What the kernel hands back. -/
theorem Φ_exit : (dats m 0 c).Φ (Fin.last cfg0.N) = Pipeline.ΦDRG osem spec0 readRefs writtenRefs (V m) (Vend m) c := by
  dsimp only [dats]; exact if_neg Nat.one_ne_zero

/-- Window 0 is left at its block. -/
theorem after_w0 (t : Fin cfg0.N) : (dats m 0 c).after 0 t = iblk m c 0 t := by dsimp only [dats]
/-- Window 1 is left at its block. -/
theorem after_w1 (t : Fin cfg0.N) : (dats m 0 c).after 1 t = iblk m c 1 t := by dsimp only [dats]
/-- Window 2 is left at its block. -/
theorem after_w2 (t : Fin cfg0.N) : (dats m 0 c).after 2 t = iblk m c 2 t := by dsimp only [dats]
/-- Window 3 is left at its block. -/
theorem after_w3 (t : Fin cfg0.N) : (dats m 0 c).after 3 t = iblk m c 3 t := by dsimp only [dats]
/-- Window 4 is left at its block. -/
theorem after_w4 (t : Fin cfg0.N) : (dats m 0 c).after 4 t = iblk m c 4 t := by dsimp only [dats]
/-- Window 5 is left at its block. -/
theorem after_w5 (t : Fin cfg0.N) : (dats m 0 c).after 5 t = iblk m c 5 t := by dsimp only [dats]

/-- Window 0 is found at its block. -/
theorem before_w0 (t : Fin cfg0.N) (d) : (dats m 0 c).before 0 t d = iblk m c 0 t := by
  unfold Dat.before; rw [if_pos (fetch0_0 t)]; unfold Dat.fetched Dat.blockOf iblk; dsimp only [dats]; rfl
/-- Window 1 is found at its block. -/
theorem before_w1 (t : Fin cfg0.N) (d) : (dats m 0 c).before 1 t d = iblk m c 1 t := by
  unfold Dat.before; rw [if_pos (fetch0_1 t)]; unfold Dat.fetched Dat.blockOf iblk; dsimp only [dats]; rfl
/-- Window 2 is found at its block. -/
theorem before_w2 (t : Fin cfg0.N) (d) : (dats m 0 c).before 2 t d = iblk m c 2 t := by
  unfold Dat.before; rw [if_pos (fetch0_2 t)]; unfold Dat.fetched Dat.blockOf iblk; dsimp only [dats]; rfl
/-- Window 3 is found at its block. -/
theorem before_w3 (t : Fin cfg0.N) (d) : (dats m 0 c).before 3 t d = iblk m c 3 t := by
  unfold Dat.before; rw [if_pos (fetch0_3 t)]; unfold Dat.fetched Dat.blockOf iblk; dsimp only [dats]; rfl
/-- Window 4 is found at its block. -/
theorem before_w4 (t : Fin cfg0.N) (d) : (dats m 0 c).before 4 t d = iblk m c 4 t := by
  unfold Dat.before; rw [if_pos (fetch0_4 t)]; unfold Dat.fetched Dat.blockOf iblk; dsimp only [dats]; rfl
/-- Window 5 is found at its block. -/
theorem before_w5 (t : Fin cfg0.N) (d) : (dats m 0 c).before 5 t d = iblk m c 5 t := by
  unfold Dat.before; rw [if_pos (fetch0_5 t)]; unfold Dat.fetched Dat.blockOf iblk; dsimp only [dats]; rfl

/-! ## The body -/

/-- The body table's entry is the kernel on the point's staging buffers. -/
theorem defs_tc : (defs₀ (F := F)) .tc cfg0.body
    = fun a => cc0__mcg_kernel hidM (Memref.isWhole_whole _) (win0_0.stage (a.2 0)) (hstage0_0 0) (win0_1.stage (a.2 1)) (hstage0_1 0)
        (win0_2.stage (a.2 2)) (hstage0_2 0) (win0_3.stage (a.2 3)) (hstage0_3 0) (win0_4.stage (a.2 4)) (hstage0_4 0)
        (win0_5.stage (a.2 5)) (hstage0_5 0) resM (Memref.isWhole_whole _) inM (Memref.isWhole_whole _) outM (Memref.isWhole_whole _)
        cc0_scratch2 cc0_scratch3 := rfl
/-- The region's body at its one point is the kernel on the point's staging buffers. -/
theorem prog_eq : (defs₀ (F := F)) .tc cfg0.body (cfg0.bodyArgs t0_0 (cfg0.slots t0_0))
    = (do
        startIn 0
        tilesFrom st0 st1 st2 st3 st4 st5 16 0) :=
  (congrFun defs_tc _).trans (kernel_eq_tiles st0 (hstage0_0 0) st1 (hstage0_1 0) st2 (hstage0_2 0) st3 (hstage0_3 0) st4 (hstage0_4 0) st5 (hstage0_5 0))

/-- The kernel over the whole arrays and buffers. -/
theorem body_run :
    iprop(Pipeline.ΦDRG osem spec0 readRefs writtenRefs (V m) (V m) c ∗ owesP c
        ∗ stagedP c st0 st1 st2 st3 st4 st5 (st0.view.rep (iblk m c 0 t0_0)) (st1.view.rep (iblk m c 1 t0_0)) (st2.view.rep (iblk m c 2 t0_0))
          (st3.view.rep (iblk m c 3 t0_0)) (st4.view.rep (iblk m c 4 t0_0)) (st5.view.rep (iblk m c 5 t0_0)))
      ⊢ wp frame (wpE (defs₀ (F := F)) 𝒱₀ (c : Thread nD τ) none) Set.univ ((defs₀ (F := F)) .tc cfg0.body (cfg0.bodyArgs t0_0 (cfg0.slots t0_0)))
        (fun _ => iprop(Pipeline.ΦDRG osem spec0 readRefs writtenRefs (V m) (Vend m) c ∗ owesP c
        ∗ stagedP c st0 st1 st2 st3 st4 st5 (st0.view.rep (iblk m c 0 t0_0)) (st1.view.rep (iblk m c 1 t0_0)) (st2.view.rep (iblk m c 2 t0_0))
          (st3.view.rep (iblk m c 3 t0_0)) (st4.view.rep (iblk m c 4 t0_0)) (st5.view.rep (iblk m c 5 t0_0)))) := by
  rw [prog_eq, Pipeline.ΦDRG_eq, Pipeline.ΦDRG_eq, scopedRest0_eq, ownSems0_eq, read_eq, written_eq, written_eq, Vend_res]
  rw [hid_parts c (fun _ => V m c main_arg0) (fun _ => V m c main_arg0) (V m c main_arg0) 0 0 fun b => Or.inr ⟨by omega, by omega, rfl⟩,
    res_parts c (fun _ => res m c) (fun _ => V m c main_v40) (V m c main_v40) 0 0 fun b => Or.inr ⟨by omega, by omega, rfl⟩]
  iintro ⟨⟨⟨HI, HO⟩, HP, ⟨HC0, HC1, HD0, HD1⟩, HH, HR⟩, HW, HG⟩
  ihave HI' := (in_split c) $$ HI
  ihave HO' := (out_split c) $$ HO
  icases HI' with ⟨HI0, HI1⟩
  icases HO' with ⟨HO0, HO1⟩
  iapply (wp_wand_r frame _ Set.univ)
  isplitr [HP]
  · iapply (kernel_run c st0 (hstage0_0 0) st1 (hstage0_1 0) st2 (hstage0_2 0) st3 (hstage0_3 0) st4 (hstage0_4 0) st5 (hstage0_5 0)
      _ _ _ _ _ _ (V m c main_arg0) (V m c main_v40) (res m c) (fun t => by unfold res result; rw [rowsOf_arrayOf]))
    isplitl [HH]; · iexact HH
    isplitl [HI0 HC0]
    · isplitl [HI0]; · iexact HI0
      iexact HC0
    isplitl [HI1 HC1]
    · isplitl [HI1]; · iexact HI1
      iexact HC1
    isplitl [HR]; · iexact HR
    isplitl [HO0 HD0]
    · isplitl [HO0]; · iexact HO0
      iexact HD0
    isplitl [HO1 HD1]
    · isplitl [HO1]; · iexact HO1
      iexact HD1
    isplitl [HG]; · iexact HG
    iexact HW
  iintro %_ HE
  ihave HE' := (Entails.of_eq (show Ended c st0 st1 st2 st3 st4 st5 _ _ _ _ _ _ (V m c main_arg0) (V m c main_v40) (res m c)
    = iprop((((c : Thread nD τ).loc main_arg0) ↦{fullShare} V m c main_arg0) ∗ freeI c 0 ∗ freeI c 1
      ∗ (((c : Thread nD τ).loc main_v40) ↦{fullShare} res m c) ∗ freeO c 0 ∗ freeO c 1
      ∗ stagedP c st0 st1 st2 st3 st4 st5 (st0.view.rep (iblk m c 0 t0_0)) (st1.view.rep (iblk m c 1 t0_0)) (st2.view.rep (iblk m c 2 t0_0))
          (st3.view.rep (iblk m c 3 t0_0)) (st4.view.rep (iblk m c 4 t0_0)) (st5.view.rep (iblk m c 5 t0_0)) ∗ owesP c) from by
      unfold Ended
      rw [← hid_parts c (fun _ => V m c main_arg0) (fun _ => V m c main_arg0) (V m c main_arg0) 16 17 fun b => Or.inl ⟨b.isLt, rfl⟩,
        ← res_parts c (fun _ => res m c) (fun _ => V m c main_v40) (res m c) 16 16 fun b => Or.inl ⟨b.isLt, rfl⟩]
      rfl)) $$ HE
  icases HE' with ⟨HH, ⟨HI0, HC0⟩, ⟨HI1, HC1⟩, HR, ⟨HO0, HD0⟩, ⟨HO1, HD1⟩, HG, HW⟩
  isplitr [HG HW]
  · isplitl [HI0 HI1 HO0 HO1]
    · isplitl [HI0 HI1]
      · iapply (in_join c)
        isplitl [HI0]; · iexact HI0
        iexact HI1
      · iapply (out_join c)
        isplitl [HO0]; · iexact HO0
        iexact HO1
    isplitl [HP]; · iexact HP
    isplitl [HC0 HC1 HD0 HD1]
    · isplitl [HC0]; · iexact HC0
      isplitl [HC1]; · iexact HC1
      isplitl [HD0]; · iexact HD0
      iexact HD1
    isplitl [HH]
    · irw [← hid_parts c (fun _ => V m c main_arg0) (fun _ => V m c main_arg0) (V m c main_arg0) 0 0 fun b => Or.inr ⟨by omega, by omega, rfl⟩]
      iexact HH
    iexact HR
  isplitl [HW]; · iexact HW
  iexact HG

/-- A staging buffer that reads as `d` is held at the contents `d` stands for. -/
theorem staged_rep {S : Shape} (M : Memref sig .tc .vmem S .f32) (g : Buf (Elt F) (M.view.loc (c : Thread nD τ))) (d : S.Idx → F .f32)
    (e : M.view.read (Elt F) g = d) :
    (M.view.loc (c : Thread nD τ) ↦[M.view.set]{fullShare} g : sProp 𝕄) ⊢ M.view.loc (c : Thread nD τ) ↦[M.view.set]{fullShare} M.view.rep d := by
  subst e; exact pointsTo_rep_entails (c : Thread nD τ) M g fullShare

set_option backward.isDefEq.respectTransparency.types false in
/-- The kernel, handed its buffers and arrays, hands them back with the result written. -/
theorem body_obligation : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, before_w4, before_w5, after_w0, after_w1, after_w2, after_w3, after_w4, after_w5]
  rw [show (dats m 0 c).Φ (Fin.castSucc t0_0) = Pipeline.ΦDRG osem spec0 readRefs writtenRefs (V m) (V m) c from Φ_entry m c,
    show (dats m 0 c).Φ (Fin.succ t0_0) = Pipeline.ΦDRG osem spec0 readRefs writtenRefs (V m) (Vend m) c from Φ_exit m c]
  unfold Dat.owesAt Pipeline.owesWithin
  rw [show (dats m 0 c).owed (Fin.castSucc t0_0) = 0 from rfl, show (dats m 0 c).owed (Fin.succ t0_0) = 0 from rfl]
  unfold owns
  iintro ⟨HΦ, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  ihave H0' := (staged_rep c st0 g0 _ e0) $$ H0
  ihave H1' := (staged_rep c st1 g1 _ e1) $$ H1
  ihave H2' := (staged_rep c st2 g2 _ e2) $$ H2
  ihave H3' := (staged_rep c st3 g3 _ e3) $$ H3
  ihave H4' := (staged_rep c st4 g4 _ e4) $$ H4
  ihave H5' := (staged_rep c st5 g5 _ e5) $$ H5
  iapply (wp_wand_r frame _ Set.univ)
  isplitl
  · iapply (body_run m c)
    isplitl [HΦ]; · iexact HΦ
    isplitl [HW]; · iexists W; iexact HW
    isplitl [H0']; · iexact H0'
    isplitl [H1']; · iexact H1'
    isplitl [H2']; · iexact H2'
    isplitl [H3']; · iexact H3'
    isplitl [H4']; · iexact H4'
    iexact H5'
  iintro %_ ⟨HΦ, ⟨%W', HW⟩, H0, H1, H2, H3, H4, H5⟩
  isplitl [HΦ]; · iexact HΦ
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  iexists _; isplitr; · ipureintro; exact View.read_rep _ _
  iexact H5

/-! ## The run of @main -/

set_option maxHeartbeats 800000 in
/-- @main up to the region, at the kernel's resource algebra. -/
theorem main_prefix : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option maxRecDepth 16384 in
set_option backward.isDefEq.respectTransparency.types false in
/-- Every run of @main ends, with every argument as launched, the result at `res`, and every semaphore counter zero. -/
theorem run_main : θ_run defs (onTc (τ := τ) (main (F := F))) (s₀ m ρ) (fun r => (∀ c : Dev nD,
      r.2.mem ((c : Thread nD τ).loc main_v40) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  Pipeline.θ_run_frame_dmaRG (Q' := _) cfgs (dats m) 0 launch0 osem defs₀ 𝒱₀ ownSemFacts readRefs writtenRefs readRefs_sub writtenRefs_sub m ρ main
    (hbody := fun c => (body_obligation m c).loose) (hshare := fun c => (dats m 0 c).share_full fun _ => rfl) (howed := fun _ _ => rfl)
    (V := V m) (hmain := main_prefix m) (hA := fun _ _ => rfl) (G := Vend m)
    (hin := fun c => Entails.of_eq (Φ_entry m c).symm) (hout := fun c => Entails.of_eq (Φ_exit m c))
    (hQ' := fun r h => ⟨fun c => ⟨(h.1.2 c main_v40 (by decide)).trans (Vend_res m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩, h.2⟩)

end Cert.Proof.Ideal
-- ==== Proof.Value.Model.lean ====
/-
  Context gating of one batch row over the extended reals, in the two forms the programs have it: the kernel's, whose
  hidden state and context only ever grow by scaled embeddings, and the reference's, a running mean. They agree.
-/
module

public import Idealize.ShloMosaic.Lib.IdealHost

@[expose] public section

noncomputable section

namespace Cert.Proof.Value

open Idealize.ShloMosaic

/-- A batch row: 64 agents of 64 lanes. -/
abbrev Row : Type := Fin 64 → Fin 64 → EReal
/-- A context: 64 lanes. -/
abbrev Ctx : Type := Fin 64 → EReal

/-- The weights of the four layers, `w k o i` the weight of lane `i` in lane `o`. -/
structure Params where
  w : Fin 4 → Fin 64 → Fin 64 → EReal
  b : Fin 4 → Fin 64 → EReal
  cw : Fin 4 → Fin 64 → Fin 64 → EReal
  cb : Fin 4 → Fin 64 → EReal

/-- An affine map of one agent's lanes. -/
def affine (w : Fin 64 → Fin 64 → EReal) (b : Fin 64 → EReal) (x : Fin 64 → EReal) (o : Fin 64) : EReal :=
  ∑ i, x i * w o i + b o

/-- The maximum over the agents. -/
def agentsMax (e : Row) (l : Fin 64) : EReal := Finset.univ.fold max ⊥ fun a => e a l

/-! ## The kernel's form -/

/-- The embedding of layer `k` scaled by `r`. -/
def scaledEmb (P : Params) (k : Fin 4) (r : EReal) (h : Row) (c : Ctx) : Row := fun a l =>
  affine (P.w k) (P.b k) (h a) l * (affine (P.cw k) (P.cb k) c l * r)

/-- The hidden state after an embedding is added to it. -/
def grow (h : Row) (e : Row) : Row := fun a l => h a l + e a l
/-- The context after the highest of an embedding is added to it. -/
def growCtx (c : Ctx) (e : Row) : Ctx := fun l => c l + agentsMax e l

/-- The first layer's embedding, which no context gates. -/
def firstEmb (P : Params) (x : Row) : Row := fun a => affine (P.w 0) (P.b 0) (x a)

/-- The hidden state after the first layer, -/
def kh0 (P : Params) (x : Row) : Row := grow x (firstEmb P x)
/-- the context after it, -/
def kc0 (P : Params) (x : Row) : Ctx := growCtx (fun _ => 1) (firstEmb P x)
/-- the second layer's embedding, -/
def ke1 (P : Params) (x : Row) : Row := scaledEmb P 1 ((1 / 2 : ℝ) : EReal) (kh0 P x) (kc0 P x)
/-- the hidden state -/
def kh1 (P : Params) (x : Row) : Row := grow (kh0 P x) (ke1 P x)
/-- and the context after it, -/
def kc1 (P : Params) (x : Row) : Ctx := growCtx (kc0 P x) (ke1 P x)
/-- the third layer's embedding, -/
def ke2 (P : Params) (x : Row) : Row := scaledEmb P 2 ((1 / 3 : ℝ) : EReal) (kh1 P x) (kc1 P x)
/-- the hidden state -/
def kh2 (P : Params) (x : Row) : Row := grow (kh1 P x) (ke2 P x)
/-- and the context after it, -/
def kc2 (P : Params) (x : Row) : Ctx := growCtx (kc1 P x) (ke2 P x)
/-- and the fourth layer's embedding. -/
def ke3 (P : Params) (x : Row) : Row := scaledEmb P 3 ((1 / 4 : ℝ) : EReal) (kh2 P x) (kc2 P x)
/-- A row after the four layers, as the kernel has it. -/
def kernelRow (P : Params) (x : Row) : Row := grow (kh2 P x) (ke3 P x)

/-! ## The reference's form -/

/-- The gated embedding. -/
def gatedEmb (P : Params) (k : Fin 4) (h : Row) (g : Ctx) : Row := fun a l => affine (P.w k) (P.b k) (h a) l * g l
/-- The gate made from a context. -/
def gateOf (P : Params) (k : Fin 4) (c : Ctx) : Ctx := affine (P.cw k) (P.cb k) c
/-- The running mean of the hidden state after layer number `n`. -/
def mean (n : EReal) (h e : Row) : Row := fun a l => Ideal.div (h a l * n + e a l) n
/-- The running mean of the context after layer number `n`. -/
def meanCtx (n : EReal) (c : Ctx) (e : Row) : Ctx := fun l => Ideal.div (c l * n + agentsMax e l) n

/-- The first layer's embedding, -/
def re0 (P : Params) (x : Row) : Row := gatedEmb P 0 x (fun _ => 1)
/-- the hidden state -/
def rh0 (P : Params) (x : Row) : Row := mean (1 : ℝ) x (re0 P x)
/-- and the context after it, -/
def rc0 (P : Params) (x : Row) : Ctx := meanCtx (1 : ℝ) (fun _ => 1) (re0 P x)
/-- the second layer's embedding, -/
def re1 (P : Params) (x : Row) : Row := gatedEmb P 1 (rh0 P x) (gateOf P 1 (rc0 P x))
/-- the hidden state -/
def rh1 (P : Params) (x : Row) : Row := mean (2 : ℝ) (rh0 P x) (re1 P x)
/-- and the context after it, -/
def rc1 (P : Params) (x : Row) : Ctx := meanCtx (2 : ℝ) (rc0 P x) (re1 P x)
/-- the third layer's embedding, -/
def re2 (P : Params) (x : Row) : Row := gatedEmb P 2 (rh1 P x) (gateOf P 2 (rc1 P x))
/-- the hidden state -/
def rh2 (P : Params) (x : Row) : Row := mean (3 : ℝ) (rh1 P x) (re2 P x)
/-- and the context after it, -/
def rc2 (P : Params) (x : Row) : Ctx := meanCtx (3 : ℝ) (rc1 P x) (re2 P x)
/-- and the fourth layer's embedding. -/
def re3 (P : Params) (x : Row) : Row := gatedEmb P 3 (rh2 P x) (gateOf P 3 (rc2 P x))
/-- A row after the four layers, as the reference has it. -/
def referenceRow (P : Params) (x : Row) : Row := mean (4 : ℝ) (rh2 P x) (re3 P x)

/-! ## They agree -/

/-- The mean's step: `(h · n + e) / n` is `h + e · (1/n)`, infinities included. -/
theorem mean_step (n : ℝ) (hn : 0 < n) (h e : EReal) : Ideal.div (h * n + e) n = h + e * ((1 / n : ℝ) : EReal) := by
  have hr : (0 : ℝ) ≤ 1 / n := by positivity
  rw [Ideal.div_coe hn.ne', EReal.right_distrib_of_nonneg_of_ne_top (by exact_mod_cast hr) (EReal.coe_ne_top _), mul_assoc,
    ← EReal.coe_mul, mul_one_div_cancel hn.ne', EReal.coe_one, mul_one]

/-- The maximum over the agents of a row scaled by a positive real is the scaled maximum. -/
theorem agentsMax_mul (r : ℝ) (hr : 0 < r) (e : Row) (l : Fin 64) :
    agentsMax (fun a l => e a l * (r : EReal)) l = agentsMax e l * (r : EReal) := by
  unfold agentsMax
  have mono : ∀ x y : EReal, max x y * (r : EReal) = max (x * (r : EReal)) (y * (r : EReal)) := fun x y =>
    Monotone.map_max (f := fun z : EReal => z * (r : EReal)) fun _ _ h => mul_le_mul_of_nonneg_right h (by exact_mod_cast hr.le)
  have hb : (⊥ : EReal) * (r : EReal) = ⊥ := EReal.bot_mul_coe_of_pos hr
  generalize (Finset.univ : Finset (Fin 64)) = s
  induction s using Finset.induction_on with
  | empty => simp [hb]
  | insert a s ha ih => rw [Finset.fold_insert ha, Finset.fold_insert ha, ih, mono]

/-- A layer's step on the hidden state in the two forms. -/
theorem mean_eq_grow (P : Params) (k : Fin 4) (n : ℝ) (hn : 0 < n) (h : Row) (c : Ctx) :
    mean (n : EReal) h (gatedEmb P k h (gateOf P k c)) = grow h (scaledEmb P k ((1 / n : ℝ) : EReal) h c) := by
  funext a l
  exact (mean_step n hn _ _).trans (congrArg (h a l + ·) (mul_assoc _ _ _))

/-- A layer's step on the context in the two forms. -/
theorem meanCtx_eq_growCtx (P : Params) (k : Fin 4) (n : ℝ) (hn : 0 < n) (h : Row) (c : Ctx) :
    meanCtx (n : EReal) c (gatedEmb P k h (gateOf P k c)) = growCtx c (scaledEmb P k ((1 / n : ℝ) : EReal) h c) := by
  funext l
  refine (mean_step n hn _ _).trans (congrArg (c l + ·) ?_)
  rw [← agentsMax_mul _ (by positivity)]
  refine congrArg (agentsMax · l) ?_
  funext a l
  exact mul_assoc _ _ _

/-- The first layer's embedding in the two forms, -/
theorem re0_eq (P : Params) (x : Row) : re0 P x = firstEmb P x := by
  funext a l; exact mul_one _

/-- the hidden state after it -/
theorem rh0_eq (P : Params) (x : Row) : rh0 P x = kh0 P x := by
  funext a l
  refine (mean_step 1 one_pos _ _).trans ?_
  rw [re0_eq]; norm_num; rfl

/-- and the context. -/
theorem rc0_eq (P : Params) (x : Row) : rc0 P x = kc0 P x := by
  funext l
  refine (mean_step 1 one_pos _ _).trans ?_
  rw [re0_eq]; norm_num; rfl

/-- The reference's row is the kernel's. -/
theorem referenceRow_eq (P : Params) (x : Row) : referenceRow P x = kernelRow P x := by
  have h1 : rh1 P x = kh1 P x := by
    unfold rh1 re1; rw [rh0_eq, rc0_eq]; exact mean_eq_grow P 1 2 two_pos _ _
  have c1 : rc1 P x = kc1 P x := by
    unfold rc1 re1; rw [rh0_eq, rc0_eq]; exact meanCtx_eq_growCtx P 1 2 two_pos _ _
  have h2 : rh2 P x = kh2 P x := by
    unfold rh2 re2; rw [h1, c1]; exact mean_eq_grow P 2 3 three_pos _ _
  have c2 : rc2 P x = kc2 P x := by
    unfold rc2 re2; rw [h1, c1]; exact meanCtx_eq_growCtx P 2 3 three_pos _ _
  unfold referenceRow re3; rw [h2, c2]; exact mean_eq_grow P 3 4 four_pos _ _

end Cert.Proof.Value

end
-- ==== Proof.Value.Constants.lean ====
/-
  The printed constants of the two programs, as extended reals.
-/
module

public import Idealize.ShloMosaic.Lib.IdealHost

@[expose] public section

noncomputable section

namespace Cert.Proof.Value

open Idealize.ShloMosaic

/-- The pattern a maximum starts at is the least extended real. -/
theorem ofBits_bottom : Ideal.ofBits .f32 0xFF800000#32 = ⊥ := by simp [Ideal.ofBits, Ideal.ieee]

/-- The pattern of a quarter, -/
theorem ofBits_quarter : Ideal.ofBits .f32 0x3E800000#32 = ((1 / 4 : ℝ) : EReal) := by
  simp [Ideal.ofBits, Ideal.ieee, -EReal.coe_mul]; norm_num
/-- of a half, -/
theorem ofBits_half : Ideal.ofBits .f32 0x3F000000#32 = ((1 / 2 : ℝ) : EReal) := by
  simp [Ideal.ofBits, Ideal.ieee, -EReal.coe_mul]; norm_num
/-- of one, -/
theorem ofBits_one : Ideal.ofBits .f32 0x3F800000#32 = ((1 : ℝ) : EReal) := Ideal.ofBits_one_f32.trans EReal.coe_one.symm
/-- of two, -/
theorem ofBits_two : Ideal.ofBits .f32 0x40000000#32 = ((2 : ℝ) : EReal) := by
  simp [Ideal.ofBits, Ideal.ieee, -EReal.coe_mul]; norm_num
/-- of three -/
theorem ofBits_three : Ideal.ofBits .f32 0x40400000#32 = ((3 : ℝ) : EReal) := by
  simp [Ideal.ofBits, Ideal.ieee, -EReal.coe_mul]; norm_num
/-- and of four. -/
theorem ofBits_four : Ideal.ofBits .f32 0x40800000#32 = ((4 : ℝ) : EReal) := by
  simp [Ideal.ofBits, Ideal.ieee, -EReal.coe_mul]; norm_num

end Cert.Proof.Value

end
-- ==== Proof.Value.Tile.lean ====
/-
  What a tile computes at an index, when the staged weights hold each half's weights in that half's lanes: every row
  of the tile is the kernel's row of Model.lean.
-/
module

public import proofs.«01_k».proof.Proof.Ideal.Tile
public import proofs.«01_k».proof.Proof.Value.Model
public import proofs.«01_k».proof.Proof.Value.Constants
public import Idealize.ShloMosaic.Lib.Pointwise

@[expose] public section

noncomputable section

namespace Cert.Proof.Value

open Cert.KernelIdeal Cert.KernelIdeal.Gen Cert.Proof.Ideal
open Idealize.ShloMosaic

/-! ## The lanes of the two halves -/

/-- Lane `k` of half `s` among the 128 packed lanes. -/
def lane (s : Fin 2) (k : Fin 64) : Fin 128 := ⟨64 * s.val + k.val, by omega⟩

/-- A sum over the packed lanes is the sum over the halves and their lanes. -/
theorem sum_lanes (f : Fin 128 → EReal) : ∑ j, f j = ∑ s : Fin 2, ∑ k : Fin 64, f (lane s k) := by
  rw [Fin.sum_univ_two_halves 64 64 rfl f, Fin.sum_univ_two]
  refine congr (congrArg _ (Finset.sum_congr rfl fun k _ => congrArg f (Fin.ext ?_))) (Finset.sum_congr rfl fun k _ => congrArg f (Fin.ext ?_))
  · simp [lane]
  · simp [lane]

/-- Against weights that are nonzero in one half alone, a sum over the packed lanes is that half's. -/
theorem sum_half (s : Fin 2) (f g : Fin 128 → EReal) (v : Fin 64 → EReal)
    (hg : ∀ t k, g (lane t k) = if t = s then v k else 0) : ∑ j, f j * g j = ∑ k, f (lane s k) * v k := by
  rw [sum_lanes, Finset.sum_eq_single_of_mem s (Finset.mem_univ s)]
  · exact Finset.sum_congr rfl fun k _ => by rw [hg, if_pos rfl]
  · intro t _ ht
    exact Finset.sum_eq_zero fun k _ => by rw [hg, if_neg ht, mul_zero]

/-- Against an indicator of one lane, a sum is that lane's term. -/
theorem sum_single (l : Fin 64) (f : Fin 64 → EReal) : (∑ k, f k * (if k = l then 1 else 0)) = f l := by
  simp

/-! ## The staged weights -/

/-- A staged matrix holds `w` in each half's block and nothing elsewhere. -/
def BlockDiagonal (x : Vec Ideal S1x128x128 .f32) (w : Fin 64 → Fin 64 → EReal) : Prop :=
  ∀ t s k o, x (ix3 0 (lane t k) (lane s o)) = if t = s then w o k else 0
/-- A staged bias holds `b` in each half. -/
def Doubled (x : Vec Ideal S1x1x128 .f32) (b : Fin 64 → EReal) : Prop := ∀ s o, x (ix3 0 0 (lane s o)) = b o
/-- A packing matrix takes a row's lanes to half `s`. -/
def PacksTo (s : Fin 2) (x : Vec Ideal S1x64x128 .f32) : Prop :=
  ∀ k t l, x (ix3 0 k (lane t l)) = if t = s then (if k = l then 1 else 0) else 0
/-- An unpacking matrix takes half `s` to a row's lanes. -/
def UnpacksFrom (s : Fin 2) (x : Vec Ideal S1x128x64 .f32) : Prop :=
  ∀ t k l, x (ix3 0 (lane t k) l) = if t = s then (if k = l then 1 else 0) else 0

/-- The staged weights hold the layers' weights. -/
structure Holds (W : Weights Ideal) (P : Params) : Prop where
  p : PacksTo 0 W.p
  q : PacksTo 1 W.q
  w : ∀ k, BlockDiagonal (W.w k) (P.w k)
  b : ∀ k, Doubled (W.b k) (P.b k)
  cw : ∀ k, k ≠ 0 → BlockDiagonal (W.cw k) (P.cw k)
  cb : ∀ k, k ≠ 0 → Doubled (W.cb k) (P.cb k)

/-! ## The packed rows, half by half -/

/-- The row in half `s` of packed row `r`. -/
def rowAt (h : FVec Ideal S128x64x128 .f32) (r : Fin 128) (s : Fin 2) : Row := fun a l => h (ix3 r a (lane s l))
/-- The context in half `s` of packed row `r`. -/
def ctxAt (c : FVec Ideal S128x128 .f32) (r : Fin 128) (s : Fin 2) : Ctx := fun l => c (ix2 r (lane s l))

/-- A packed layer is the affine map of each half. -/
theorem layer_apply (h : FVec Ideal S128x64x128 .f32) (x : Vec Ideal S1x128x128 .f32) (y : Vec Ideal S1x1x128 .f32)
    (w : Fin 64 → Fin 64 → EReal) (b : Fin 64 → EReal) (hx : BlockDiagonal x w) (hy : Doubled y b) (r : Fin 128) (s : Fin 2) :
    rowAt (layer h x y) r s = fun a => affine w b (rowAt h r s a) := by
  funext a l
  unfold rowAt
  pointwise [layer]
  rw [sum_half s _ _ (w l) fun t k => hx t s k l, hy]
  rfl

/-- The maximum over the agents, half by half. -/
theorem agentMax_apply (e : FVec Ideal S128x64x128 .f32) (r : Fin 128) (s : Fin 2) :
    ctxAt (agentMax e) r s = agentsMax (rowAt e r s) := by
  funext l
  unfold ctxAt
  pointwise [agentMax]
  rw [ofBits_bottom]
  rfl

/-- A packed gate is the scaled affine map of each half's context. -/
theorem gate_apply (c : FVec Ideal S128x128 .f32) (x : Vec Ideal S1x128x128 .f32) (y : Vec Ideal S1x1x128 .f32) (z : EReal)
    (w : Fin 64 → Fin 64 → EReal) (b : Fin 64 → EReal) (hx : BlockDiagonal x w) (hy : Doubled y b) (r : Fin 128) (s : Fin 2) (l : Fin 64) :
    gate (F := Ideal) c x y z (ix3 r 0 (lane s l)) = affine w b (ctxAt c r s) l * z := by
  pointwise [gate]
  rw [sum_half s _ _ (w l) fun t k => hx t s k l, hy]
  rfl

/-- A packed gated layer is the scaled embedding of each half. -/
theorem embG_apply (W : Weights Ideal) (P : Params) (hW : Holds W P) (k : Fin 4) (hk : k ≠ 0) (z : EReal)
    (h : FVec Ideal S128x64x128 .f32) (c : FVec Ideal S128x128 .f32) (r : Fin 128) (s : Fin 2) :
    rowAt (embG W k z h c) r s = scaledEmb P k z (rowAt h r s) (ctxAt c r s) := by
  funext a l
  have e := congrFun (congrFun (layer_apply h _ _ _ _ (hW.w k) (hW.b k) r s) a) l
  have g := gate_apply c _ _ z _ _ (hW.cw k hk) (hW.cb k hk) r s l
  unfold rowAt at e ⊢
  unfold embG
  pointwise [gated]
  rw [e, g]
  rfl

/-- Adding an embedding, half by half. -/
theorem rowAt_addf (h e : FVec Ideal S128x64x128 .f32) (r : Fin 128) (s : Fin 2) :
    rowAt (addf h e) r s = grow (rowAt h r s) (rowAt e r s) := rfl

/-- Adding the highest of an embedding to the contexts, half by half. -/
theorem ctxAt_addf (c : FVec Ideal S128x128 .f32) (e : FVec Ideal S128x64x128 .f32) (r : Fin 128) (s : Fin 2) :
    ctxAt (addf c (agentMax e)) r s = growCtx (ctxAt c r s) (rowAt e r s) := by
  have m := agentMax_apply e r s
  funext l
  exact congrArg (ctxAt c r s l + ·) (congrFun m l)

/-! ## The constants -/

/-- The three scales: a half, -/
theorem half_eq : (Cert.Proof.Ideal.half : Ideal .f32) = ((1 / 2 : ℝ) : EReal) := ofBits_half
/-- a third -/
theorem third_eq : (Cert.Proof.Ideal.third : Ideal .f32) = ((1 / 3 : ℝ) : EReal) :=
  IdealRules.named_const.ideal_named_scalar _ _ _ _ rfl
/-- and a quarter. -/
theorem quarter_eq : (Cert.Proof.Ideal.quarter : Ideal .f32) = ((1 / 4 : ℝ) : EReal) := ofBits_quarter

/-! ## The four layers -/

section Layers

variable (W : Weights Ideal) (P : Params) (hW : Holds W P) (h : FVec Ideal S128x64x128 .f32) (r : Fin 128) (s : Fin 2)
include hW

/-- In each half of a packed row the layers are the kernel's row's: the first embedding, -/
theorem emb0_apply : rowAt (emb0 W h) r s = firstEmb P (rowAt h r s) := layer_apply h _ _ _ _ (hW.w 0) (hW.b 0) r s

/-- the rows -/
theorem hid0_apply : rowAt (hid0 W h) r s = kh0 P (rowAt h r s) := by
  unfold hid0 kh0; rw [rowAt_addf, emb0_apply W P hW]

/-- and the contexts after it, -/
theorem ctx0_apply : ctxAt (ctx0 W h) r s = kc0 P (rowAt h r s) := by
  unfold ctx0 kc0; rw [ctxAt_addf, emb0_apply W P hW]
  refine congrArg (growCtx · _) ?_
  funext l
  exact Ideal.ofBits_one_f32

/-- the second embedding, -/
theorem embG1_apply : rowAt (embG W 1 half (hid0 W h) (ctx0 W h)) r s = ke1 P (rowAt h r s) := by
  rw [embG_apply W P hW 1 (by decide), hid0_apply W P hW, ctx0_apply W P hW, half_eq]; rfl
/-- the rows -/
theorem hid1_apply : rowAt (hid1 W h) r s = kh1 P (rowAt h r s) := by
  unfold hid1 kh1; rw [rowAt_addf, embG1_apply W P hW, hid0_apply W P hW]
/-- and the contexts after it, -/
theorem ctx1_apply : ctxAt (ctx1 W h) r s = kc1 P (rowAt h r s) := by
  unfold ctx1 kc1; rw [ctxAt_addf, embG1_apply W P hW, ctx0_apply W P hW]

/-- the third embedding, -/
theorem embG2_apply : rowAt (embG W 2 third (hid1 W h) (ctx1 W h)) r s = ke2 P (rowAt h r s) := by
  rw [embG_apply W P hW 2 (by decide), hid1_apply W P hW, ctx1_apply W P hW, third_eq]; rfl
/-- the rows -/
theorem hid2_apply : rowAt (hid2 W h) r s = kh2 P (rowAt h r s) := by
  unfold hid2 kh2; rw [rowAt_addf, embG2_apply W P hW, hid1_apply W P hW]
/-- and the contexts after it. -/
theorem ctx2_apply : ctxAt (ctx2 W h) r s = kc2 P (rowAt h r s) := by
  unfold ctx2 kc2; rw [ctxAt_addf, embG2_apply W P hW, ctx1_apply W P hW]

/-- A packed row after the four layers is the kernel's row of each half. -/
theorem hid3_apply : rowAt (hid3 W h) r s = kernelRow P (rowAt h r s) := by
  unfold hid3 kernelRow
  rw [rowAt_addf, embG_apply W P hW 3 (by decide), hid2_apply W P hW, ctx2_apply W P hW, quarter_eq]; rfl

end Layers

/-! ## Packing and unpacking -/

/-- Half `s` of packed row `r` is row `128 · s + r` of the tile. -/
theorem pack_apply (x : Vec Ideal S1x256x64x64 .f32) (p q : Vec Ideal S1x64x128 .f32) (hp : PacksTo 0 p) (hq : PacksTo 1 q)
    (r : Fin 128) (s : Fin 2) :
    rowAt (pack x p q) r s = fun a l => x (ix4 0 ⟨128 * s.val + r.val, by omega⟩ a l) := by
  funext a l
  unfold rowAt
  pointwise [pack]
  simp only [hp _ s l, hq _ s l]
  fin_cases s
  · simp
  · simp

/-- A half of the packed rows unpacked. -/
theorem unpack_apply (h : FVec Ideal S128x64x128 .f32) (u : Vec Ideal S1x128x64 .f32) (s : Fin 2) (hu : UnpacksFrom s u)
    (r : Fin 128) (a l : Fin 64) : unpack h u (ix4 0 r a l) = rowAt h r s a l := by
  pointwise [unpack]
  rw [sum_half s _ _ (fun k => if k = l then 1 else 0) fun t k => hu t k l, sum_single]
  rfl

/-- A tile's half `s` at a row: the kernel's row of the tile's row `128 · s + r`. -/
theorem tileHalf_apply (W : Weights Ideal) (P : Params) (hW : Holds W P) (x : Vec Ideal S1x256x64x64 .f32) (u : Vec Ideal S1x128x64 .f32)
    (s : Fin 2) (hu : UnpacksFrom s u) (r : Fin 128) (a l : Fin 64) :
    tileHalf W x u (ix4 0 r a l) = kernelRow P (fun a l => x (ix4 0 ⟨128 * s.val + r.val, by omega⟩ a l)) a l := by
  unfold tileHalf
  rw [unpack_apply _ u s hu, hid3_apply W P hW, pack_apply x _ _ hW.p hW.q]

end Cert.Proof.Value

end
-- ==== Proof.Value.Arrays.lean ====
/-
  The arrays the host makes of the weights before the kernel is called, at an index: the block-diagonal matrices, the
  doubled biases, the packing and the unpacking matrices.
-/
module

public import proofs.«01_k».proof.Proof.Value.Tile
public import Idealize.ShloMosaic.Lib.Routing.OpsSet
public import Idealize.ShloMosaic.Lib.Routing.OpsPair

@[expose] public section

noncomputable section

namespace Cert.Proof.Value

open Cert.KernelIdeal Cert.KernelIdeal.Gen
open Idealize.ShloMosaic

/-! ## Block-diagonal matrices -/

/-- The corner `(n, n)` as a pair of words. -/
def corner (n : BitVec 32) : IVec S2 32 :=
  concatenate S2 0 [⟨S1, broadcastInDim S1 ![] bcast_S_S1 (constantI S_ 32 n)⟩, ⟨S1, broadcastInDim S1 ![] bcast_S_S1 (constantI S_ 32 n)⟩]
    concatenates_S1_S1_S2_d0

/-- Matrices written over the 64 by 64 block at the corner `(n, n)` of larger ones. -/
def place (n : BitVec 32) (x : FVec Ideal S4x128x128 .f32) (u : FVec Ideal S4x64x64 .f32) : FVec Ideal S4x128x128 .f32 :=
  Host.scatter scatter_S4x128x128_S2_S4x64x64_012_n_12_0 (fun _ b => b) x (corner n) u

/-- The block-diagonal matrices made of the transposes of `x`, twice each. -/
def blockDiagonal (x : FVec Ideal S4x64x64 .f32) : FVec Ideal S4x128x128 .f32 :=
  place 64#32
    (place 0#32 (broadcastInDim S4x128x128 ![] bcast_S_S4x128x128 (constant S_ .f32 0x00000000#32))
      (transpose S4x64x64 [0, 2, 1] x transposes_S4x64x64_S4x64x64_0_2_1))
    (transpose S4x64x64 [0, 2, 1] x transposes_S4x64x64_S4x64x64_0_2_1)

/-- Both coordinates of a corner are the number. -/
theorem corner_apply (n : BitVec 32) (i : S2.Idx) : corner n i = n := by
  idx_vars i
  pointwise [corner]
  simp

/-- An element of the block is written at the corner's offset on the two last axes. -/
theorem place_lands (n : BitVec 32) (s : Fin 2) (hn : n.toInt = 64 * (s.val : Int)) (k k' : Fin 4) (i j : Fin 64) (i' j' : Fin 128) :
    scatter_S4x128x128_S2_S4x64x64_012_n_12_0.resultIdx? (ix3 k i j) (corner n) = some (ix3 k' i' j')
      ↔ k = k' ∧ lane s i = i' ∧ lane s j = j' := by
  rw [Routing.resultIdx?_eq_some]
  have h0 : scatter_S4x128x128_S2_S4x64x64_012_n_12_0.start (ix3 k i j) (corner n) 0 = 0 := rfl
  have h1 : scatter_S4x128x128_S2_S4x64x64_012_n_12_0.start (ix3 k i j) (corner n) 1 = n.toInt := congrArg BitVec.toInt (corner_apply n _)
  have h2 : scatter_S4x128x128_S2_S4x64x64_012_n_12_0.start (ix3 k i j) (corner n) 2 = n.toInt := congrArg BitVec.toInt (corner_apply n _)
  have w0 : scatter_S4x128x128_S2_S4x64x64_012_n_12_0.window (ix3 k i j) 0 = k.val := rfl
  have w1 : scatter_S4x128x128_S2_S4x64x64_012_n_12_0.window (ix3 k i j) 1 = i.val := rfl
  have w2 : scatter_S4x128x128_S2_S4x64x64_012_n_12_0.window (ix3 k i j) 2 = j.val := rfl
  constructor
  · intro h
    have e0 := h 0
    have e1 := h 1
    have e2 := h 2
    rw [h0, w0] at e0
    rw [h1, w1, hn] at e1
    rw [h2, w2, hn] at e2
    change _ = ((k'.val : ℕ) : Int) at e0
    change _ = ((i'.val : ℕ) : Int) at e1
    change _ = ((j'.val : ℕ) : Int) at e2
    refine ⟨Fin.ext ?_, Fin.ext ?_, Fin.ext ?_⟩
    · omega
    · show 64 * s.val + i.val = _; omega
    · show 64 * s.val + j.val = _; omega
  · rintro ⟨rfl, rfl, rfl⟩ a
    fin_cases a
    · exact (congr (congrArg HAdd.hAdd h0) (congrArg Nat.cast w0)).trans (zero_add _)
    · refine (congr (congrArg HAdd.hAdd (h1.trans hn)) (congrArg Nat.cast w1)).trans ?_
      show _ = (((64 * s.val + i.val : ℕ)) : Int); push_cast; rfl
    · refine (congr (congrArg HAdd.hAdd (h2.trans hn)) (congrArg Nat.cast w2)).trans ?_
      show _ = (((64 * s.val + j.val : ℕ)) : Int); push_cast; rfl

/-- The larger matrices at an index: the block's element inside the block, what was there outside it. -/
theorem place_apply (n : BitVec 32) (s : Fin 2) (hn : n.toInt = 64 * (s.val : Int)) (x : FVec Ideal S4x128x128 .f32)
    (u : FVec Ideal S4x64x64 .f32) (k : Fin 4) (t t' : Fin 2) (i j : Fin 64) :
    place n x u (ix3 k (lane t i) (lane t' j)) = if t = s ∧ t' = s then u (ix3 k i j) else x (ix3 k (lane t i) (lane t' j)) := by
  have inj : ∀ (a b : Fin 2) (p q : Fin 64), lane a p = lane b q → a = b ∧ p = q := fun a b p q e => by
    have e' : 64 * a.val + p.val = 64 * b.val + q.val := congrArg Fin.val e
    exact ⟨Fin.ext (by omega), Fin.ext (by omega)⟩
  split_ifs with h
  · obtain ⟨rfl, rfl⟩ := h
    refine Routing.scatter_set_hit _ _ _ _ _ _ (fun y hy => ?_) (ix3 k i j) ((place_lands n t' hn _ _ _ _ _ _).2 ⟨rfl, rfl, rfl⟩)
    idx_vars y
    obtain ⟨rfl, e1, e2⟩ := (place_lands n t' hn _ _ _ _ _ _).1 hy
    rw [(inj _ _ _ _ e1).2, (inj _ _ _ _ e2).2]
  · refine Routing.scatter_set_miss _ _ _ _ _ fun y hy => h ?_
    idx_vars y
    obtain ⟨-, e1, e2⟩ := (place_lands n s hn _ _ _ _ _ _).1 hy
    exact ⟨(inj _ _ _ _ e1).1.symm, (inj _ _ _ _ e2).1.symm⟩

/-- A block-diagonal matrix at an index. -/
theorem blockDiagonal_apply (x : FVec Ideal S4x64x64 .f32) (k : Fin 4) (t s : Fin 2) (i o : Fin 64) :
    blockDiagonal x (ix3 k (lane t i) (lane s o)) = if t = s then x (ix3 k o i) else 0 := by
  have T : transpose S4x64x64 [0, 2, 1] x transposes_S4x64x64_S4x64x64_0_2_1 (ix3 k i o) = x (ix3 k o i) := by pointwise
  have Z : broadcastInDim S4x128x128 ![] bcast_S_S4x128x128 (constant (F := Ideal) S_ .f32 0x00000000#32) (ix3 k (lane t i) (lane s o)) = 0 :=
    Ideal.ofBits_zero_f32
  unfold blockDiagonal
  rw [place_apply 64#32 1 (by decide), place_apply 0#32 0 (by decide), T, Z]
  fin_cases t <;> fin_cases s <;> simp

/-! ## Doubled biases -/

/-- The biases `x` twice along the lanes. -/
def doubled (x : FVec Ideal S4x64 .f32) : FVec Ideal S4x1x128 .f32 :=
  broadcastInDim S4x1x128 ![0, 2] bcast_S4x128_S4x1x128_0_2
    (concatenate S4x128 1 [⟨S4x64, x⟩, ⟨S4x64, x⟩] concatenates_S4x64_S4x64_S4x128_d1)

/-- A doubled bias holds the bias in each half. -/
theorem doubled_apply (x : FVec Ideal S4x64 .f32) (k : Fin 4) (s : Fin 2) (o : Fin 64) :
    doubled x (ix3 k 0 (lane s o)) = x (ix2 k o) := by
  pointwise [doubled]
  fin_cases s <;> simp [lane]

/-! ## The packing and the unpacking matrices -/

/-- The identity, -/
def eye : FVec Ideal S64x64 .f32 :=
  uitofp .f32 (cmpi .eq (addi (iotaInDim S64x64 32 0) (broadcastInDim S64x64 ![] bcast_S_S64x64 (constantI S_ 32 0#32))) (iotaInDim S64x64 32 1))
/-- the zero matrix, -/
def zeros : FVec Ideal S64x64 .f32 := broadcastInDim S64x64 ![] bcast_S_S64x64 (constant S_ .f32 0x00000000#32)
/-- the packing matrices -/
def packing : FVec Ideal S2x64x128 .f32 :=
  concatenate S2x64x128 0
    [⟨S1x64x128, broadcastInDim S1x64x128 ![1, 2] bcast_S64x128_S1x64x128_1_2 (concatenate S64x128 1 [⟨S64x64, eye⟩, ⟨S64x64, zeros⟩] concatenates_S64x64_S64x64_S64x128_d1)⟩,
     ⟨S1x64x128, broadcastInDim S1x64x128 ![1, 2] bcast_S64x128_S1x64x128_1_2 (concatenate S64x128 1 [⟨S64x64, zeros⟩, ⟨S64x64, eye⟩] concatenates_S64x64_S64x64_S64x128_d1)⟩]
    concatenates_S1x64x128_S1x64x128_S2x64x128_d0
/-- and the unpacking matrices. -/
def unpacking : FVec Ideal S2x128x64 .f32 :=
  concatenate S2x128x64 0
    [⟨S1x128x64, broadcastInDim S1x128x64 ![1, 2] bcast_S128x64_S1x128x64_1_2 (concatenate S128x64 0 [⟨S64x64, eye⟩, ⟨S64x64, zeros⟩] concatenates_S64x64_S64x64_S128x64_d0)⟩,
     ⟨S1x128x64, broadcastInDim S1x128x64 ![1, 2] bcast_S128x64_S1x128x64_1_2 (concatenate S128x64 0 [⟨S64x64, zeros⟩, ⟨S64x64, eye⟩] concatenates_S64x64_S64x64_S128x64_d0)⟩]
    concatenates_S1x128x64_S1x128x64_S2x128x64_d0

/-- The zero matrix at an index. -/
theorem zeros_apply (i j : Fin 64) : zeros (ix2 i j) = 0 := Ideal.ofBits_zero_f32

/-- The identity matrix at an index. -/
theorem eye_apply (i j : Fin 64) : eye (ix2 i j) = if i = j then 1 else 0 := by
  pointwise [eye]
  have e : IntOp.cmpi .eq (IntOp.addi (BitVec.ofNat 32 i.val) 0#32) (BitVec.ofNat 32 j.val) = BitVec.ofBool (decide (i.val = j.val)) := by
    show IntOp.cmpi .eq (BitVec.ofNat 32 i.val + 0#32) _ = _
    rw [BitVec.add_zero]
    exact WordCmp.cmpi_eq_ofNat (by omega) (by omega)
  rw [e]
  show (((BitVec.ofBool (decide (i.val = j.val))).toNat : ℝ) : EReal) = _
  by_cases h : i = j
  · simp [h]
  · simp [h, Fin.val_inj]

/-- The packing matrix of half `s` takes a row's lanes to that half. -/
theorem packing_apply (s t : Fin 2) (k l : Fin 64) :
    packing (ix3 s k (lane t l)) = if t = s then (if k = l then 1 else 0) else 0 := by
  pointwise [packing]
  fin_cases s <;> fin_cases t <;> simp [lane, zeros_apply, eye_apply]

/-- The unpacking matrix of half `s` takes that half to a row's lanes. -/
theorem unpacking_apply (s t : Fin 2) (k l : Fin 64) :
    unpacking (ix3 s (lane t k) l) = if t = s then (if k = l then 1 else 0) else 0 := by
  pointwise [unpacking]
  fin_cases s <;> fin_cases t <;> simp [lane, zeros_apply, eye_apply]

end Cert.Proof.Value

end
-- ==== Proof.Value.Staged.lean ====
/-
  What the kernel finds staged: the arrays the host made of the weights, so that the weights a tile loads hold the
  layers' weights (Tile.lean's `Holds`).
-/
module

public import proofs.«01_k».proof.Proof.Value.Arrays
public import proofs.«01_k».proof.Proof.Ideal.Launch
public import Idealize.ShloMosaic.Lib.VecWindow

@[expose] public section

noncomputable section

namespace Cert.Proof.Value

open Cert.KernelIdeal Cert.KernelIdeal.Gen Cert.Proof.Ideal
open Idealize.ShloMosaic Idealize.ShloMosaic.TcCoe Idealize.SL.Sem Idealize.ShloMosaic.StableHlo

variable (m : (ℓ : Loc nD τ sig) → Buf (Elt Ideal) ℓ) (c : Dev nD)

/-- The six arrays as the kernel is called: the layers' weights, block by block, -/
theorem V_wfb : V m c main_v10 = blockDiagonal (m ((c : Thread nD τ).loc main_arg2)) := by
  dsimp only [V, hostOps0]
  after_results_simp
  rfl
/-- the layers' biases in both halves, -/
theorem V_bfb : V m c main_v20 = doubled (m ((c : Thread nD τ).loc main_arg3)) := by
  dsimp only [V, hostOps0]
  after_results_simp
  rfl
/-- the gates' weights, -/
theorem V_wcb : V m c main_v18 = blockDiagonal (m ((c : Thread nD τ).loc main_arg4)) := by
  dsimp only [V, hostOps0]
  after_results_simp
  rfl
/-- the gates' biases, -/
theorem V_bcb : V m c main_v22 = doubled (m ((c : Thread nD τ).loc main_arg5)) := by
  dsimp only [V, hostOps0]
  after_results_simp
  rfl
/-- the packing matrices -/
theorem V_pk : V m c main_v34 = packing := by
  dsimp only [V, hostOps0]
  after_results_simp
  rfl
/-- and the unpacking matrices. -/
theorem V_upk : V m c main_v39 = unpacking := by
  dsimp only [V, hostOps0]
  after_results_simp
  rfl

/-! ## What is staged -/

/-- The one block of each staged window is its whole array: the layers' weights, -/
theorem staged_wfb : iblk m c 0 t0_0 = (V m c main_v10 : S4x128x128.Idx → EReal) :=
  funext fun y => congrArg (V m c main_v10) (funext fun a => Fin.ext (by fin_cases a <;> exact (Nat.zero_add _).trans (Nat.one_mul _)))
/-- the layers' biases, -/
theorem staged_bfb : iblk m c 1 t0_0 = (V m c main_v20 : S4x1x128.Idx → EReal) :=
  funext fun y => congrArg (V m c main_v20) (funext fun a => Fin.ext (by fin_cases a <;> exact (Nat.zero_add _).trans (Nat.one_mul _)))
/-- the gates' weights, -/
theorem staged_wcb : iblk m c 2 t0_0 = (V m c main_v18 : S4x128x128.Idx → EReal) :=
  funext fun y => congrArg (V m c main_v18) (funext fun a => Fin.ext (by fin_cases a <;> exact (Nat.zero_add _).trans (Nat.one_mul _)))
/-- the gates' biases, -/
theorem staged_bcb : iblk m c 3 t0_0 = (V m c main_v22 : S4x1x128.Idx → EReal) :=
  funext fun y => congrArg (V m c main_v22) (funext fun a => Fin.ext (by fin_cases a <;> exact (Nat.zero_add _).trans (Nat.one_mul _)))
/-- the packing matrices -/
theorem staged_pk : iblk m c 4 t0_0 = (V m c main_v34 : S2x64x128.Idx → EReal) :=
  funext fun y => congrArg (V m c main_v34) (funext fun a => Fin.ext (by fin_cases a <;> exact (Nat.zero_add _).trans (Nat.one_mul _)))
/-- and the unpacking matrices. -/
theorem staged_upk : iblk m c 5 t0_0 = (V m c main_v39 : S2x128x64.Idx → EReal) :=
  funext fun y => congrArg (V m c main_v39) (funext fun a => Fin.ext (by fin_cases a <;> exact (Nat.zero_add _).trans (Nat.one_mul _)))

/-! ## A plane of a staged array, loaded -/

/-- A load of plane `n` of an array held at `x` gives `x`'s plane. -/
theorem plane_load {A B C n : ℕ} (hn : n < A) (v : View sig .tc .vmem ⟨3, ![A, B, C]⟩ .f32) (x : (⟨3, ![A, B, C]⟩ : Shape).Idx → EReal)
    (inb : ∀ a, (![n, 0, 0] : Fin 3 → ℕ) a + (⟨3, ![1, B, C]⟩ : Shape).size a ≤ (⟨3, ![A, B, C]⟩ : Shape).size a) (i : Fin B) (j : Fin C) :
    (v.readAt (Elt Ideal) (Rect.unit (s := ⟨3, ![A, B, C]⟩) ![n, 0, 0] (⟨3, ![1, B, C]⟩ : Shape).size inb).toLoadRect (v.rep (Val := Elt Ideal) x)
      : (⟨3, ![1, B, C]⟩ : Shape).Idx → EReal) (ix3 0 i j) = x (ix3 ⟨n, hn⟩ i j) := by
  rw [View.readAt_rep_unit (Val := Elt Ideal) v x inb rfl inb]
  refine congrArg x (funext fun a => Fin.ext ?_)
  fin_cases a
  · show n + 1 * 0 = n; omega
  · show 0 + 1 * i.val = i.val; omega
  · show 0 + 1 * j.val = j.val; omega

/-- Four planes of such an array loaded one after the other, `n`, 1, 2 and 3. -/
theorem planes_load {B C : ℕ} (n : Fin 4) (v : View sig .tc .vmem ⟨3, ![4, B, C]⟩ .f32) (x : (⟨3, ![4, B, C]⟩ : Shape).Idx → EReal)
    (inb0 : ∀ a, (![n.val, 0, 0] : Fin 3 → ℕ) a + (⟨3, ![1, B, C]⟩ : Shape).size a ≤ (⟨3, ![4, B, C]⟩ : Shape).size a)
    (inb1 : ∀ a, (![1, 0, 0] : Fin 3 → ℕ) a + (⟨3, ![1, B, C]⟩ : Shape).size a ≤ (⟨3, ![4, B, C]⟩ : Shape).size a)
    (inb2 : ∀ a, (![2, 0, 0] : Fin 3 → ℕ) a + (⟨3, ![1, B, C]⟩ : Shape).size a ≤ (⟨3, ![4, B, C]⟩ : Shape).size a)
    (inb3 : ∀ a, (![3, 0, 0] : Fin 3 → ℕ) a + (⟨3, ![1, B, C]⟩ : Shape).size a ≤ (⟨3, ![4, B, C]⟩ : Shape).size a)
    (j : Fin 4) (i : Fin B) (k : Fin C) :
    (![v.readAt (Elt Ideal) (Rect.unit (s := ⟨3, ![4, B, C]⟩) ![n.val, 0, 0] (⟨3, ![1, B, C]⟩ : Shape).size inb0).toLoadRect (v.rep (Val := Elt Ideal) x),
       v.readAt (Elt Ideal) (Rect.unit (s := ⟨3, ![4, B, C]⟩) ![1, 0, 0] (⟨3, ![1, B, C]⟩ : Shape).size inb1).toLoadRect (v.rep (Val := Elt Ideal) x),
       v.readAt (Elt Ideal) (Rect.unit (s := ⟨3, ![4, B, C]⟩) ![2, 0, 0] (⟨3, ![1, B, C]⟩ : Shape).size inb2).toLoadRect (v.rep (Val := Elt Ideal) x),
       v.readAt (Elt Ideal) (Rect.unit (s := ⟨3, ![4, B, C]⟩) ![3, 0, 0] (⟨3, ![1, B, C]⟩ : Shape).size inb3).toLoadRect (v.rep (Val := Elt Ideal) x)]
      : Fin 4 → (⟨3, ![1, B, C]⟩ : Shape).Idx → EReal) j (ix3 0 i k) = x (ix3 ((![n, 1, 2, 3] : Fin 4 → Fin 4) j) i k) :=
  match j with
  | 0 => plane_load n.isLt v x inb0 i k
  | 1 => plane_load (by decide) v x inb1 i k
  | 2 => plane_load (by decide) v x inb2 i k
  | 3 => plane_load (by decide) v x inb3 i k

/-! ## The staged weights hold the layers' weights -/

/-- The layers' weights, of the four weight arguments. -/
def params : Params where
  w k o i := m ((c : Thread nD τ).loc main_arg2) (ix3 k o i : S4x64x64.Idx)
  b k o := m ((c : Thread nD τ).loc main_arg3) (ix2 k o : S4x64.Idx)
  cw k o i := m ((c : Thread nD τ).loc main_arg4) (ix3 k o i : S4x64x64.Idx)
  cb k o := m ((c : Thread nD τ).loc main_arg5) (ix2 k o : S4x64.Idx)

/-- What a tile loads of the staged weights. -/
abbrev weights : Weights Ideal :=
  stagedW c st0 st1 st2 st3 st4 (st0.view.rep (iblk m c 0 t0_0)) (st1.view.rep (iblk m c 1 t0_0)) (st2.view.rep (iblk m c 2 t0_0))
    (st3.view.rep (iblk m c 3 t0_0)) (st4.view.rep (iblk m c 4 t0_0))

/-- The planes 0, 1, 2, 3 in order are each at its number; -/
theorem planeOf_eq (j : Fin 4) : (![0, 1, 2, 3] : Fin 4 → Fin 4) j = j := by revert j; decide
/-- with plane 1 in the place of plane 0, all but the first are. -/
theorem planeOf_eq_of_ne (j : Fin 4) (hj : j ≠ 0) : (![1, 1, 2, 3] : Fin 4 → Fin 4) j = j := by revert j; decide

/-- A plane of a staged array as a tile loads it: of the layers' weights, -/
theorem load_w (j : Fin 4) (x y : Fin 128) : (weights m c).w j (ix3 0 x y) = (V m c main_v10 : S4x128x128.Idx → EReal) (ix3 j x y) := by
  rw [← staged_wfb]; dsimp only [weights, stagedW]
  exact (planes_load 0 st0.view _ _ _ _ _ j x y).trans (by rw [planeOf_eq])
/-- of the layers' biases, -/
theorem load_b (j : Fin 4) (y : Fin 128) : (weights m c).b j (ix3 0 0 y) = (V m c main_v20 : S4x1x128.Idx → EReal) (ix3 j 0 y) := by
  rw [← staged_bfb]; dsimp only [weights, stagedW]
  exact (planes_load 0 st1.view _ _ _ _ _ j 0 y).trans (by rw [planeOf_eq])
/-- of the gates' weights (no layer but the gated ones loads any), -/
theorem load_cw (j : Fin 4) (hj : j ≠ 0) (x y : Fin 128) :
    (weights m c).cw j (ix3 0 x y) = (V m c main_v18 : S4x128x128.Idx → EReal) (ix3 j x y) := by
  rw [← staged_wcb]; dsimp only [weights, stagedW]
  exact (planes_load 1 st2.view _ _ _ _ _ j x y).trans (by rw [planeOf_eq_of_ne j hj])
/-- of the gates' biases, -/
theorem load_cb (j : Fin 4) (hj : j ≠ 0) (y : Fin 128) :
    (weights m c).cb j (ix3 0 0 y) = (V m c main_v22 : S4x1x128.Idx → EReal) (ix3 j 0 y) := by
  rw [← staged_bcb]; dsimp only [weights, stagedW]
  exact (planes_load 1 st3.view _ _ _ _ _ j 0 y).trans (by rw [planeOf_eq_of_ne j hj])
/-- of the packing matrices, the first -/
theorem load_p (x : Fin 64) (y : Fin 128) : (weights m c).p (ix3 0 x y) = (V m c main_v34 : S2x64x128.Idx → EReal) (ix3 0 x y) := by
  rw [← staged_pk]; dsimp only [weights, stagedW]
  exact plane_load (by decide) st4.view _ _ x y
/-- and the second. -/
theorem load_q (x : Fin 64) (y : Fin 128) : (weights m c).q (ix3 0 x y) = (V m c main_v34 : S2x64x128.Idx → EReal) (ix3 1 x y) := by
  rw [← staged_pk]; dsimp only [weights, stagedW]
  exact plane_load (by decide) st4.view _ _ x y

/-- The weights a tile loads hold the layers' weights. -/
theorem holds : Holds (weights m c) (params m c) where
  p k t l := by rw [load_p, V_pk]; exact packing_apply 0 t k l
  q k t l := by rw [load_q, V_pk]; exact packing_apply 1 t k l
  w j t s k o := by rw [load_w, V_wfb]; exact blockDiagonal_apply _ j t s k o
  b j s o := by rw [load_b, V_bfb]; exact doubled_apply _ j s o
  cw j hj t s k o := by rw [load_cw m c j hj, V_wcb]; exact blockDiagonal_apply _ j t s k o
  cb j hj s o := by rw [load_cb m c j hj, V_bcb]; exact doubled_apply _ j s o

/-- The unpacking matrices a tile loads: the first unpacks from the first half, -/
theorem unpacksTop : UnpacksFrom 0 (stagedU c st5 (st5.view.rep (iblk m c 5 t0_0))) := fun t k l => by
  refine (plane_load (n := 0) (by decide) st5.view _ _ (lane t k) l).trans ?_
  rw [staged_upk, V_upk]; exact unpacking_apply 0 t k l
/-- the second, from the second half. -/
theorem unpacksBottom : UnpacksFrom 1 (stagedV c st5 (st5.view.rep (iblk m c 5 t0_0))) := fun t k l => by
  refine (plane_load (n := 1) (by decide) st5.view _ _ (lane t k) l).trans ?_
  rw [staged_upk, V_upk]; exact unpacking_apply 1 t k l

/-! ## The kernel's result -/

/-- Row `b` of the hidden argument. -/
def hiddenRow (b : Fin 4096) : Row := fun a l => m ((c : Thread nD τ).loc main_arg0) (ix3 b a l : S4096x64x64.Idx)

/-- The kernel's result at an index: the kernel's row of the argument's row. -/
theorem res_apply (b : Fin 4096) (a l : Fin 64) : res m c (ix3 b a l) = kernelRow (params m c) (hiddenRow m c b) a l := by
  have row : ∀ (s : Fin 2) (r : Fin 128) (hr : b.val % 256 = 128 * s.val + r.val),
      ((fun a l => loaded (F := Ideal) (rowsOf (V m c main_arg0) ⟨b.val / 256, by omega⟩) (ix4 0 ⟨128 * s.val + r.val, by omega⟩ a l)) : Row) = hiddenRow m c b := by
    intro s r hr
    funext a l
    rw [V_main_arg0]
    show m ((c : Thread nD τ).loc main_arg0) (ix3 (⟨256 * (b.val / 256) + (128 * s.val + r.val), _⟩ : Fin 4096) a l : S4096x64x64.Idx) = _
    exact congrArg (fun z : Fin 4096 => m ((c : Thread nD τ).loc main_arg0) (ix3 z a l : S4096x64x64.Idx)) (Fin.ext (by show 256 * (b.val / 256) + _ = b.val; omega))
  by_cases h : b.val % 256 < 128
  · refine (dif_pos h).trans ?_
    refine (tileHalf_apply (weights m c) (params m c) (holds m c) _ _ 0 (unpacksTop m c) ⟨b.val % 256, h⟩ a l).trans ?_
    exact congrArg (fun x => kernelRow (params m c) x a l) (row 0 ⟨b.val % 256, h⟩ (by simp))
  · refine (dif_neg h).trans ?_
    refine (tileHalf_apply (weights m c) (params m c) (holds m c) _ _ 1 (unpacksBottom m c) ⟨b.val % 256 - 128, by omega⟩ a l).trans ?_
    exact congrArg (fun x => kernelRow (params m c) x a l)
      (row 1 ⟨b.val % 256 - 128, by omega⟩ (by show _ = 128 * 1 + (b.val % 256 - 128); omega))

end Cert.Proof.Value

end
-- ==== Proof.Value.Reference.lean ====
/-
  The reference's result at an index: with every agent available, every row of it is the reference's row of Model.lean.
-/
module

public import proofs.«01_k».proof.Proof.Gen.ReferenceIdeal.Run
public import proofs.«01_k».proof.Proof.Value.Model
public import proofs.«01_k».proof.Proof.Value.Constants
public import Idealize.ShloMosaic.Lib.Pointwise

@[expose] public section

noncomputable section

namespace Cert.Proof.Reference

open Cert.ReferenceIdeal Cert.ReferenceIdeal.Gen Cert.Proof.Value
open Idealize.ShloMosaic Idealize.ShloMosaic.TcCoe Idealize.SL.Sem

/-! ## The operations of a layer, over all rows -/

/-- The embedding of the hidden states `h` by the weights `w` and `b`, gated by `g`. -/
def embedding (w : FVec Ideal S1x64x64 .f32) (b : FVec Ideal S1x64 .f32) (h : FVec Ideal S4096x64x64 .f32) (g : FVec Ideal S4096x64 .f32) :
    FVec Ideal S4096x64x64 .f32 :=
  mulf (addf (Host.dotGeneral dot_S4096x64x64_S64x64_S4096x64x64_2_1_01_0_n_n none h (shapeCast _ w shapeCasts_S1x64x64_S64x64))
      (broadcastInDim S4096x64x64 ![0, 1, 2] bcast_S1x1x64_S4096x64x64_0_1_2
        (broadcastInDim S1x1x64 ![2] bcast_S64_S1x1x64_2 (shapeCast _ b shapeCasts_S1x64_S64))))
    (broadcastInDim S4096x64x64 ![0, 1, 2] bcast_S4096x1x64_S4096x64x64_0_1_2 (broadcastInDim S4096x1x64 ![0, 2] bcast_S4096x64_S4096x1x64_0_2 g))

/-- The gates made from the contexts `c`. -/
def gates (w : FVec Ideal S1x64x64 .f32) (b : FVec Ideal S1x64 .f32) (c : FVec Ideal S4096x64 .f32) : FVec Ideal S4096x64 .f32 :=
  addf (Host.dotGeneral dot_S4096x64_S64x64_S4096x64_1_0_0_1_n_n none c
      (transpose S64x64 [1, 0] (shapeCast _ w shapeCasts_S1x64x64_S64x64) transposes_S64x64_S64x64_1_0))
    (broadcastInDim S4096x64 ![0, 1] bcast_S1x64_S4096x64_0_1 (broadcastInDim S1x64 ![1] bcast_S64_S1x64_1 (shapeCast _ b shapeCasts_S1x64_S64)))

/-- The maximum of `e` over the agents that `av` calls available. -/
def highest (av : IVec S4096x64 1) (e : FVec Ideal S4096x64x64 .f32) : FVec Ideal S4096x64 .f32 :=
  Host.reduce FloatOps.maximumf
    (select (broadcastInDim S4096x64x64 ![0, 1, 2] bcast_S4096x64x1_S4096x64x64_0_1_2 (broadcastInDim S4096x64x1 ![0, 1] bcast_S4096x64_S4096x64x1_0_1 av))
      e (broadcastInDim S4096x64x64 ![] bcast_S_S4096x64x64 (id (constant S_ .f32 0xFF800000#32))))
    (constant S_ .f32 0xFF800000#32) reducesTo_S4096x64x64_S4096x64_d1 h_S_

/-- The running means of the hidden states, the layer's number being the pattern `n`. -/
def means (n : BitVec 32) (h e : FVec Ideal S4096x64x64 .f32) : FVec Ideal S4096x64x64 .f32 :=
  Host.divf (addf (mulf h (broadcastInDim S4096x64x64 ![] bcast_S_S4096x64x64 (constant S_ .f32 n))) e)
    (broadcastInDim S4096x64x64 ![] bcast_S_S4096x64x64 (constant S_ .f32 n))
/-- The running means of the contexts, likewise. -/
def contextMeans (n : BitVec 32) (c e : FVec Ideal S4096x64 .f32) : FVec Ideal S4096x64 .f32 :=
  Host.divf (addf (mulf c (broadcastInDim S4096x64 ![] bcast_S_S4096x64 (constant S_ .f32 n))) e)
    (broadcastInDim S4096x64 ![] bcast_S_S4096x64 (constant S_ .f32 n))

/-! ## The same, row by row -/

/-- Row `b` of an array of hidden states. -/
def rowOf (h : FVec Ideal S4096x64x64 .f32) (b : Fin 4096) : Row := fun a l => h (ix3 b a l)
/-- Row `b` of an array of contexts. -/
def contextOf (c : FVec Ideal S4096x64 .f32) (b : Fin 4096) : Ctx := fun l => c (ix2 b l)

/-- A row's embedding is the gated embedding of the row, by the weights' values. -/
theorem embedding_apply (P : Params) (k : Fin 4) (w : FVec Ideal S1x64x64 .f32) (b : FVec Ideal S1x64 .f32) (hw : ∀ o i, w (ix3 0 o i) = P.w k o i)
    (hb : ∀ o, b (ix2 0 o) = P.b k o) (h : FVec Ideal S4096x64x64 .f32) (g : FVec Ideal S4096x64 .f32) (r : Fin 4096) :
    rowOf (embedding w b h g) r = gatedEmb P k (rowOf h r) (contextOf g r) := by
  funext a l
  unfold rowOf
  pointwise [embedding]
  simp only [hw, hb]
  rfl

/-- A row's gate is the gate of the row's context. -/
theorem gates_apply (P : Params) (k : Fin 4) (w : FVec Ideal S1x64x64 .f32) (b : FVec Ideal S1x64 .f32) (hw : ∀ o i, w (ix3 0 o i) = P.cw k o i)
    (hb : ∀ o, b (ix2 0 o) = P.cb k o) (c : FVec Ideal S4096x64 .f32) (r : Fin 4096) :
    contextOf (gates w b c) r = gateOf P k (contextOf c r) := by
  funext l
  unfold contextOf
  pointwise [gates]
  simp only [hw, hb]
  rfl

/-- With every agent available, the maximum is over all the agents. -/
theorem highest_apply (av : IVec S4096x64 1) (hav : ∀ i, av i = 1#1) (e : FVec Ideal S4096x64x64 .f32) (r : Fin 4096) :
    contextOf (highest av e) r = agentsMax (rowOf e r) := by
  funext l
  unfold contextOf
  pointwise [highest]
  simp only [hav, ofBits_bottom]
  rfl

/-- The running means, row by row, -/
theorem means_apply (n : BitVec 32) (h e : FVec Ideal S4096x64x64 .f32) (r : Fin 4096) :
    rowOf (means n h e) r = mean (Ideal.ofBits .f32 n) (rowOf h r) (rowOf e r) := by
  funext a l
  unfold rowOf
  pointwise [means]
  rfl

/-- and those of the contexts with the maximum over all the agents. -/
theorem contextMeans_apply (n : BitVec 32) (av : IVec S4096x64 1) (hav : ∀ i, av i = 1#1) (c : FVec Ideal S4096x64 .f32)
    (e : FVec Ideal S4096x64x64 .f32) (r : Fin 4096) :
    contextOf (contextMeans n c (highest av e)) r = meanCtx (Ideal.ofBits .f32 n) (contextOf c r) (rowOf e r) := by
  have g := highest_apply av hav e r
  funext l
  have gl := congrFun g l
  unfold contextOf at gl ⊢
  pointwise [contextMeans]
  rw [gl]
  rfl

/-! ## The four layers -/

variable (m : (ℓ : Loc nD τ sig) → Buf (Elt Ideal) ℓ) (c : Dev nD)

/-- The arguments: the hidden states, -/
def a0 : FVec Ideal S4096x64x64 .f32 := m ((c : Thread nD τ).loc main_arg0)
/-- the availabilities, -/
def a1 : IVec S4096x64 1 := m ((c : Thread nD τ).loc main_arg1)
/-- the layers' weights -/
def a2 : FVec Ideal S4x64x64 .f32 := m ((c : Thread nD τ).loc main_arg2)
/-- and biases, -/
def a3 : FVec Ideal S4x64 .f32 := m ((c : Thread nD τ).loc main_arg3)
/-- the gates' weights -/
def a4 : FVec Ideal S4x64x64 .f32 := m ((c : Thread nD τ).loc main_arg4)
/-- and biases. -/
def a5 : FVec Ideal S4x64 .f32 := m ((c : Thread nD τ).loc main_arg5)

/-- The layers' weights. -/
def params : Params where
  w k o i := a2 m c (ix3 k o i)
  b k o := a3 m c (ix2 k o)
  cw k o i := a4 m c (ix3 k o i)
  cb k o := a5 m c (ix2 k o)

/-- The context before the first layer, -/
def c0 : FVec Ideal S4096x64 .f32 := broadcastInDim S4096x64 ![] bcast_S_S4096x64 (constant S_ .f32 0x3F800000#32)
/-- the first layer's embeddings, -/
def e0 : FVec Ideal S4096x64x64 .f32 :=
  embedding (extractStridedSlice S1x64x64 ![0, 0, 0] (a2 m c) slices_S4x64x64_S1x64x64_0_0_0)
    (extractStridedSlice S1x64 ![0, 0] (a3 m c) slices_S4x64_S1x64_0_0) (a0 m c) c0
/-- the hidden states -/
def h1 : FVec Ideal S4096x64x64 .f32 := means 0x3F800000#32 (a0 m c) (e0 m c)
/-- and the contexts after it, -/
def c1 : FVec Ideal S4096x64 .f32 := contextMeans 0x3F800000#32 c0 (highest (a1 m c) (e0 m c))
/-- the second layer's embeddings, -/
def e1 : FVec Ideal S4096x64x64 .f32 :=
  embedding (extractStridedSlice S1x64x64 ![1, 0, 0] (a2 m c) slices_S4x64x64_S1x64x64_1_0_0)
    (extractStridedSlice S1x64 ![1, 0] (a3 m c) slices_S4x64_S1x64_1_0) (h1 m c)
    (gates (extractStridedSlice S1x64x64 ![1, 0, 0] (a4 m c) slices_S4x64x64_S1x64x64_1_0_0)
      (extractStridedSlice S1x64 ![1, 0] (a5 m c) slices_S4x64_S1x64_1_0) (c1 m c))
/-- the hidden states -/
def h2 : FVec Ideal S4096x64x64 .f32 := means 0x40000000#32 (h1 m c) (e1 m c)
/-- and the contexts after it, -/
def c2 : FVec Ideal S4096x64 .f32 := contextMeans 0x40000000#32 (c1 m c) (highest (a1 m c) (e1 m c))
/-- the third layer's embeddings, -/
def e2 : FVec Ideal S4096x64x64 .f32 :=
  embedding (extractStridedSlice S1x64x64 ![2, 0, 0] (a2 m c) slices_S4x64x64_S1x64x64_2_0_0)
    (extractStridedSlice S1x64 ![2, 0] (a3 m c) slices_S4x64_S1x64_2_0) (h2 m c)
    (gates (extractStridedSlice S1x64x64 ![2, 0, 0] (a4 m c) slices_S4x64x64_S1x64x64_2_0_0)
      (extractStridedSlice S1x64 ![2, 0] (a5 m c) slices_S4x64_S1x64_2_0) (c2 m c))
/-- the hidden states -/
def h3 : FVec Ideal S4096x64x64 .f32 := means 0x40400000#32 (h2 m c) (e2 m c)
/-- and the contexts after it, -/
def c3 : FVec Ideal S4096x64 .f32 := contextMeans 0x40400000#32 (c2 m c) (highest (a1 m c) (e2 m c))
/-- the fourth layer's embeddings -/
def e3 : FVec Ideal S4096x64x64 .f32 :=
  embedding (extractStridedSlice S1x64x64 ![3, 0, 0] (a2 m c) slices_S4x64x64_S1x64x64_3_0_0)
    (extractStridedSlice S1x64 ![3, 0] (a3 m c) slices_S4x64_S1x64_3_0) (h3 m c)
    (gates (extractStridedSlice S1x64x64 ![3, 0, 0] (a4 m c) slices_S4x64x64_S1x64x64_3_0_0)
      (extractStridedSlice S1x64 ![3, 0] (a5 m c) slices_S4x64_S1x64_3_0) (c3 m c))
/-- and the hidden states after it. -/
def h4 : FVec Ideal S4096x64x64 .f32 := means 0x40800000#32 (h3 m c) (e3 m c)

/-- The run's result is the fourth layer's hidden states. -/
theorem res_eq : Cert.ReferenceIdeal.Value.res_out0 m c = h4 m c := by
  show Cert.ReferenceIdeal.Value.res_main_v118 m c = h4 m c
  unfold Cert.ReferenceIdeal.Value.res_main_v118 h4 e3 c3 h3 e2 c2 h2 e1 c1 h1 e0 c0 means contextMeans highest gates embedding a0 a1 a2 a3 a4 a5
  rfl

/-- Plane `n` of a weight array. -/
theorem plane_apply (x : FVec Ideal S4x64x64 .f32) (n : ℕ) (hn : n < 4) (hs : S4x64x64.Slices ![n, 0, 0] S1x64x64) (o i : Fin 64) :
    extractStridedSlice S1x64x64 ![n, 0, 0] x hs (ix3 0 o i) = x (ix3 ⟨n, hn⟩ o i) := by
  refine congrArg x (funext fun a => Fin.ext ?_)
  fin_cases a
  · show n + 0 = n; omega
  · show 0 + o.val = o.val; omega
  · show 0 + i.val = i.val; omega
/-- Line `n` of a bias array. -/
theorem line_apply (x : FVec Ideal S4x64 .f32) (n : ℕ) (hn : n < 4) (hs : S4x64.Slices ![n, 0] S1x64) (o : Fin 64) :
    extractStridedSlice S1x64 ![n, 0] x hs (ix2 0 o) = x (ix2 ⟨n, hn⟩ o) := by
  refine congrArg x (funext fun a => Fin.ext ?_)
  fin_cases a
  · show n + 0 = n; omega
  · show 0 + o.val = o.val; omega

variable (hav : ∀ i, a1 m c i = 1#1) (r : Fin 4096)

/-- Row by row, each of these is the row's in Model.lean: the context before the first layer, -/
theorem c0_apply : contextOf c0 r = fun _ => 1 := by
  funext l; unfold contextOf; pointwise [c0]

/-- the first layer's embeddings, -/
theorem e0_apply : rowOf (e0 m c) r = re0 (params m c) (rowOf (a0 m c) r) := by
  unfold e0 re0
  rw [embedding_apply (params m c) 0 _ _ (plane_apply (a2 m c) 0 (by decide) _) (line_apply (a3 m c) 0 (by decide) _), c0_apply]
/-- the hidden states -/
theorem h1_apply : rowOf (h1 m c) r = rh0 (params m c) (rowOf (a0 m c) r) := by
  unfold h1 rh0; rw [means_apply, e0_apply, ofBits_one]
include hav in
/-- and the contexts after it, -/
theorem c1_apply : contextOf (c1 m c) r = rc0 (params m c) (rowOf (a0 m c) r) := by
  unfold c1 rc0; rw [contextMeans_apply _ _ hav, e0_apply, c0_apply, ofBits_one]
include hav in
/-- the second layer's embeddings, -/
theorem e1_apply : rowOf (e1 m c) r = re1 (params m c) (rowOf (a0 m c) r) := by
  unfold e1 re1
  rw [embedding_apply (params m c) 1 _ _ (plane_apply (a2 m c) 1 (by decide) _) (line_apply (a3 m c) 1 (by decide) _),
    gates_apply (params m c) 1 _ _ (plane_apply (a4 m c) 1 (by decide) _) (line_apply (a5 m c) 1 (by decide) _),
    h1_apply, c1_apply m c hav]
include hav in
/-- the hidden states -/
theorem h2_apply : rowOf (h2 m c) r = rh1 (params m c) (rowOf (a0 m c) r) := by
  unfold h2 rh1; rw [means_apply, h1_apply, e1_apply m c hav, ofBits_two]
include hav in
/-- and the contexts after it, -/
theorem c2_apply : contextOf (c2 m c) r = rc1 (params m c) (rowOf (a0 m c) r) := by
  unfold c2 rc1; rw [contextMeans_apply _ _ hav, e1_apply m c hav, c1_apply m c hav, ofBits_two]
include hav in
/-- the third layer's embeddings, -/
theorem e2_apply : rowOf (e2 m c) r = re2 (params m c) (rowOf (a0 m c) r) := by
  unfold e2 re2
  rw [embedding_apply (params m c) 2 _ _ (plane_apply (a2 m c) 2 (by decide) _) (line_apply (a3 m c) 2 (by decide) _),
    gates_apply (params m c) 2 _ _ (plane_apply (a4 m c) 2 (by decide) _) (line_apply (a5 m c) 2 (by decide) _),
    h2_apply m c hav, c2_apply m c hav]
include hav in
/-- the hidden states -/
theorem h3_apply : rowOf (h3 m c) r = rh2 (params m c) (rowOf (a0 m c) r) := by
  unfold h3 rh2; rw [means_apply, h2_apply m c hav, e2_apply m c hav, ofBits_three]
include hav in
/-- and the contexts after it, -/
theorem c3_apply : contextOf (c3 m c) r = rc2 (params m c) (rowOf (a0 m c) r) := by
  unfold c3 rc2; rw [contextMeans_apply _ _ hav, e2_apply m c hav, c2_apply m c hav, ofBits_three]
include hav in
/-- and the fourth layer's embeddings. -/
theorem e3_apply : rowOf (e3 m c) r = re3 (params m c) (rowOf (a0 m c) r) := by
  unfold e3 re3
  rw [embedding_apply (params m c) 3 _ _ (plane_apply (a2 m c) 3 (by decide) _) (line_apply (a3 m c) 3 (by decide) _),
    gates_apply (params m c) 3 _ _ (plane_apply (a4 m c) 3 (by decide) _) (line_apply (a5 m c) 3 (by decide) _),
    h3_apply m c hav, c3_apply m c hav]

include hav in
/-- With every agent available, row `r` of the reference's result is the reference's row of row `r` of its argument. -/
theorem res_apply : rowOf (Cert.ReferenceIdeal.Value.res_out0 m c) r = referenceRow (params m c) (rowOf (a0 m c) r) := by
  rw [res_eq]
  unfold h4 referenceRow; rw [means_apply, h3_apply m c hav, e3_apply m c hav, ofBits_four]

end Cert.Proof.Reference

end
-- ==== Proof.Value.Algebraic.lean ====
/-
  From memories that agree on the arguments, with every agent available, the kernel's result and the reference's are
  one array.
-/
module

public import proofs.«01_k».proof.Defs
public import proofs.«01_k».proof.Proof.Gen.Pre_all_available
public import proofs.«01_k».proof.Proof.Value.Staged
public import proofs.«01_k».proof.Proof.Value.Reference
public import Idealize.ShloMosaic.Lib.ReduceAll

@[expose] public section

noncomputable section

namespace Cert.Proof.Value

open Idealize.ShloMosaic Idealize.ShloMosaic.TcCoe Idealize.SL.Sem

/-- Under the precondition every availability is set. -/
theorem available (m : (ℓ : Loc Cert.KernelIdeal.nD Cert.KernelIdeal.τ Cert.KernelIdeal.sig) → Buf (Elt Ideal) ℓ)
    (h : Cert.Pre_KernelIdeal_all_available m) (c : Dev Cert.KernelIdeal.nD) (i : Cert.KernelIdeal.S4096x64.Idx) :
    m ((c : Thread Cert.KernelIdeal.nD Cert.KernelIdeal.τ).loc Cert.KernelIdeal.main_arg1) i = 1#1 := by
  have one : Subsingleton Cert.Pre_all_available.S_.Idx := ⟨fun a b => funext fun d => d.elim0⟩
  have e := congrFun (h c) fun d => d.elim0
  unfold Cert.Pre_all_available.fn at e
  exact Host.reduce_andi_all _ _ _ _ _ e i

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result is the kernel's. -/
theorem result_eq (h : Cert.Pre_KernelIdeal_all_available m) (c : Dev Cert.KernelIdeal.nD)
    (e0 : Cert.Proof.Reference.a0 m' c = m ((c : Thread Cert.KernelIdeal.nD Cert.KernelIdeal.τ).loc Cert.KernelIdeal.main_arg0))
    (e1 : Cert.Proof.Reference.a1 m' c = m ((c : Thread Cert.KernelIdeal.nD Cert.KernelIdeal.τ).loc Cert.KernelIdeal.main_arg1))
    (e2 : Cert.Proof.Reference.a2 m' c = m ((c : Thread Cert.KernelIdeal.nD Cert.KernelIdeal.τ).loc Cert.KernelIdeal.main_arg2))
    (e3 : Cert.Proof.Reference.a3 m' c = m ((c : Thread Cert.KernelIdeal.nD Cert.KernelIdeal.τ).loc Cert.KernelIdeal.main_arg3))
    (e4 : Cert.Proof.Reference.a4 m' c = m ((c : Thread Cert.KernelIdeal.nD Cert.KernelIdeal.τ).loc Cert.KernelIdeal.main_arg4))
    (e5 : Cert.Proof.Reference.a5 m' c = m ((c : Thread Cert.KernelIdeal.nD Cert.KernelIdeal.τ).loc Cert.KernelIdeal.main_arg5)) :
    (Cert.ReferenceIdeal.Value.res_out0 m' c : Cert.KernelIdeal.S4096x64x64.Idx → EReal) = Cert.Proof.Ideal.res m c := by
  have hP : Cert.Proof.Reference.params m' c = params m c := by
    unfold Cert.Proof.Reference.params params; rw [e2, e3, e4, e5]
  funext i
  obtain ⟨b, a, l, rfl⟩ : ∃ (b : Fin 4096) (a l : Fin 64), i = ix3 b a l := ⟨i 0, i 1, i 2, funext fun d => by fin_cases d <;> rfl⟩
  have hr := congrFun (congrFun (Cert.Proof.Reference.res_apply m' c (fun j => (congrFun e1 j).trans (available m h c j)) b) a) l
  rw [hP, referenceRow_eq] at hr
  refine hr.trans ((congrArg (fun x => kernelRow (params m c) x a l) ?_).trans (res_apply m c b a l).symm)
  funext a l
  exact congrFun e0 _

end Cert.Proof.Value

end
-- ==== Proof.KernelFrame.lean ====
/-
  The kernel's frame, from the frame of the kernel with its constant named.

  The two programs have the same operations in the same order; they differ in one scalar constant, which the one
  prints as a bit pattern and the other by name. Reading a named constant as the pattern printed beside it makes the
  second program the first, so the run proved of the second (Proof/Ideal/Launch.lean) is the run of the first.
-/
module

public import proofs.«01_k».proof.Defs
public import proofs.«01_k».proof.Proof.Ideal.Launch
public import proofs.«01_k».proof.Proof.Gen.Kernel.Launch
public import proofs.«01_k».proof.Proof.Gen.KernelIdeal.Launch

@[expose] public section

noncomputable section

namespace Cert.Proof.KernelFrame

open Idealize.ShloMosaic Idealize.ShloMosaic.TcCoe Idealize.ShloMosaic.Tactic
open Idealize.SL Idealize.SL.Sem

/-- The printed constant read as printed, whatever it is called. -/
instance printedConstants : Named Bits where
  named _ _ {φ} bits := FloatOps.ofBits φ bits

/-- The frame of the kernel with its constant named, at the machine's floats. -/
def NamedFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- That frame holds: it is the run's statement about the arguments and the counters, without the result. -/
theorem namedFrame : NamedFrame := fun m g _ =>
  (θ_run Cert.KernelIdeal.defs _ _).mono (fun _ h => ⟨fun c => (h.1 c).2, h.2⟩) (Cert.Proof.Ideal.run_main (F := Bits) m g)

set_option maxHeartbeats 0 in
/-- The two programs are one program: they differ in the name of one constant alone. -/
theorem frame_eq : Cert.quiescent_Kernel = NamedFrame := by
  sl_kernel_rfl

/-- The kernel terminates without a fault, leaves its arguments as they were and every counter at zero. -/
theorem frame : Cert.quiescent_Kernel := frame_eq ▸ namedFrame

end Cert.Proof.KernelFrame
-- ==== Proof.lean ====
/-
  The certificate's claim, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_all_available
public import proofs.«01_k».proof.Proof.Ideal.Launch
public import proofs.«01_k».proof.Proof.Value.Algebraic
public import proofs.«01_k».proof.Proof.KernelFrame
public import Idealize.ShloMosaic.Adequacy
public import Idealize.ShloMosaic.Init

@[expose] public section

noncomputable section

namespace Cert.Proof

open Idealize.ShloMosaic Idealize.SL.Sem

/-- The idealized kernel terminates without a fault, leaves its arguments as they were and every counter at zero. -/
theorem frameIdeal : Cert.quiescent_KernelIdeal := fun m g _ =>
  (θ_run Cert.KernelIdeal.defs _ _).mono (fun _ h => ⟨fun c => (h.1 c).2, h.2⟩) (Cert.Proof.Ideal.run_main (F := Ideal) m g)

/-- The reference terminates without a fault and leaves its arguments as they were; it declares no semaphore. -/
theorem frameReference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant `third` is the exact third, and the bit pattern printed in the kernel is the float nearest to it. -/
theorem preserves : Cert.preserves_Kernel_KernelIdeal :=
  IdealRules.named_const.statement Cert.KernelIdeal.κ "third" .f32 0x3EAAAAAB#32 ((1 / 3 : ℝ) : EReal) rfl

/-- With every agent available, the idealized kernel and the reference, started from memories that agree on the
arguments, end with the same result array. -/
theorem algebraic : Cert.algebraic_KernelIdeal_ReferenceIdeal_pre_all_available := fun m g m' g' h e =>
  ⟨fun c => Cert.Proof.Ideal.res m c,
    (θ_run Cert.KernelIdeal.defs _ _).mono (fun _ k => k.1) (Cert.Proof.Ideal.run_main (F := Ideal) m g),
    (θ_run Cert.ReferenceIdeal.defs _ _).mono
      (fun _ k c => ⟨(k c).1.trans (Value.result_eq m m' h c (e c).1 (e c).2.1 (e c).2.2.1 (e c).2.2.2.1 (e c).2.2.2.2.1 (e c).2.2.2.2.2), (k c).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, Cert.Pre_all_available.Gen.facts,
    KernelFrame.frame, frameIdeal, fun m g _ => frameIdeal m g trivial, frameReference, fun m g _ => frameReference m g trivial,
    preserves, algebraic⟩

end Cert.Proof

end
